-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x5000x4 : Shape := ⟨3, ![4, 5000, 4]⟩
abbrev S4x5000x20 : Shape := ⟨3, ![4, 5000, 20]⟩
abbrev S4x20x5000 : Shape := ⟨3, ![4, 20, 5000]⟩
abbrev S_ : Shape := ⟨0, ![]⟩
abbrev S4x24x5120 : Shape := ⟨3, ![4, 24, 5120]⟩
abbrev S4x4x5000 : Shape := ⟨3, ![4, 4, 5000]⟩
abbrev S4x8x5120 : Shape := ⟨3, ![4, 8, 5120]⟩
abbrev S4x300x4 : Shape := ⟨3, ![4, 300, 4]⟩
abbrev S4x1x300 : Shape := ⟨3, ![4, 1, 300]⟩
abbrev S1x24x5120 : Shape := ⟨3, ![1, 24, 5120]⟩
abbrev S1x8x5120 : Shape := ⟨3, ![1, 8, 5120]⟩
abbrev S1x300x4 : Shape := ⟨3, ![1, 300, 4]⟩
abbrev S1x1x300 : Shape := ⟨3, ![1, 1, 300]⟩
abbrev S24x5120 : Shape := ⟨2, ![24, 5120]⟩
abbrev S24x512 : Shape := ⟨2, ![24, 512]⟩
abbrev S8x512 : Shape := ⟨2, ![8, 512]⟩
abbrev S512x8 : Shape := ⟨2, ![512, 8]⟩
abbrev S1x1x5120 : Shape := ⟨3, ![1, 1, 5120]⟩
abbrev S1x5120 : Shape := ⟨2, ![1, 5120]⟩
abbrev S24 : Shape := ⟨1, ![24]⟩
abbrev S24x1 : Shape := ⟨2, ![24, 1]⟩
abbrev S1x24x512 : Shape := ⟨3, ![1, 24, 512]⟩
abbrev S1 : Shape := ⟨1, ![1]⟩
abbrev S1x1x1 : Shape := ⟨3, ![1, 1, 1]⟩
abbrev S1x512 : Shape := ⟨2, ![1, 512]⟩
abbrev S1x1 : Shape := ⟨2, ![1, 1]⟩
abbrev S1x4 : Shape := ⟨2, ![1, 4]⟩
abbrev S1x300 : Shape := ⟨2, ![1, 300]⟩
abbrev S300 : Shape := ⟨1, ![300]⟩
abbrev S300x4 : Shape := ⟨2, ![300, 4]⟩
abbrev S4x300 : Shape := ⟨2, ![4, 300]⟩

abbrev nBuf : Space → Nat
  | .hbm => 15
  | .vmem => 20
  | .smem => 0
  | _ => 0

abbrev bufTy : (tb : Table) → Fin (tcTables nBuf tb) → BufTy
  | .hbm, ⟨0, _⟩ => ⟨S4x5000x4, .f32⟩
  | .hbm, ⟨1, _⟩ => ⟨S4x5000x20, .f32⟩
  | .hbm, ⟨2, _⟩ => ⟨S4x20x5000, .f32⟩
  | .hbm, ⟨3, _⟩ => ⟨S_, .i32⟩
  | .hbm, ⟨4, _⟩ => ⟨S_, .f32⟩
  | .hbm, ⟨5, _⟩ => ⟨S4x24x5120, .f32⟩
  | .hbm, ⟨6, _⟩ => ⟨S4x4x5000, .f32⟩
  | .hbm, ⟨7, _⟩ => ⟨S_, .i32⟩
  | .hbm, ⟨8, _⟩ => ⟨S_, .f32⟩
  | .hbm, ⟨9, _⟩ => ⟨S4x8x5120, .f32⟩
  | .hbm, ⟨10, _⟩ => ⟨S4x300x4, .f32⟩
  | .hbm, ⟨11, _⟩ => ⟨S4x1x300, .f32⟩
  | .hbm, ⟨12, _⟩ => ⟨S4x1x300, .i32⟩
  | .hbm, ⟨13, _⟩ => ⟨S4x300, .f32⟩
  | .hbm, ⟨14, _⟩ => ⟨S4x300, .i32⟩
  | .local _ .vmem, ⟨0, _⟩ => ⟨S1x24x5120, .f32⟩
  | .local _ .vmem, ⟨1, _⟩ => ⟨S1x24x5120, .f32⟩
  | .local _ .vmem, ⟨2, _⟩ => ⟨S1x8x5120, .f32⟩
  | .local _ .vmem, ⟨3, _⟩ => ⟨S1x8x5120, .f32⟩
  | .local _ .vmem, ⟨4, _⟩ => ⟨S1x300x4, .f32⟩
  | .local _ .vmem, ⟨5, _⟩ => ⟨S1x300x4, .f32⟩
  | .local _ .vmem, ⟨6, _⟩ => ⟨S1x1x300, .f32⟩
  | .local _ .vmem, ⟨7, _⟩ => ⟨S1x1x300, .f32⟩
  | .local _ .vmem, ⟨8, _⟩ => ⟨S1x1x300, .i32⟩
  | .local _ .vmem, ⟨9, _⟩ => ⟨S1x1x300, .i32⟩
  | .local _ .vmem, ⟨10, _⟩ => ⟨S24x5120, .f32⟩
  | .local _ .vmem, ⟨11, _⟩ => ⟨S24x512, .f32⟩
  | .local _ .vmem, ⟨12, _⟩ => ⟨S24x512, .f32⟩
  | .local _ .vmem, ⟨13, _⟩ => ⟨S24x512, .f32⟩
  | .local _ .vmem, ⟨14, _⟩ => ⟨S24x512, .f32⟩
  | .local _ .vmem, ⟨15, _⟩ => ⟨S24x512, .f32⟩
  | .local _ .vmem, ⟨16, _⟩ => ⟨S24x512, .i32⟩
  | .local _ .vmem, ⟨17, _⟩ => ⟨S8x512, .f32⟩
  | .local _ .vmem, ⟨18, _⟩ => ⟨S8x512, .i32⟩
  | .local _ .vmem, ⟨19, _⟩ => ⟨S512x8, .f32⟩
  | _, _ => ⟨S4x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c300_i32 : BitVec 32 := 300#32
  let v46 : BitVec 32 := Scalar.addi c0_i32 c300_i32
  let c1_i32 : BitVec 32 := 1#32
  ⟨c0_i32, v46, c1_i32⟩
@[reducible] def k0_t2_loop : Scf.Loop 32 :=
  let c0_i32_34 : BitVec 32 := 0#32
  let c300_i32_35 : BitVec 32 := 300#32
  let v55 : BitVec 32 := Scalar.addi c0_i32_34 c300_i32_35
  let c1_i32_36 : BitVec 32 := 1#32
  ⟨c0_i32_34, v55, c1_i32_36⟩
def k0_off1 (k0_t2 : Fin k0_t2_loop.trips) : Fin 2 → Nat :=
  let c0_i32_34 : BitVec 32 := 0#32
  let c1_i32_36 : BitVec 32 := 1#32
  let arg16 : BitVec 32 := Scf.iv c0_i32_34 c1_i32_36 k0_t2
  let v157 : Index := Scalar.indexCast arg16
  let c0_93 : Index := 0#32
  ![v157.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x300x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x300 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x5000x4 : Shape := ⟨3, ![4, 5000, 4]⟩
abbrev S4x5000x20 : Shape := ⟨3, ![4, 5000, 20]⟩
abbrev S_ : Shape := ⟨0, ![]⟩
abbrev S4x1x4 : Shape := ⟨3, ![4, 1, 4]⟩
abbrev S4x5001x4 : Shape := ⟨3, ![4, 5001, 4]⟩
abbrev S4x1x20 : Shape := ⟨3, ![4, 1, 20]⟩
abbrev S4x5001x20 : Shape := ⟨3, ![4, 5001, 20]⟩
abbrev S4x20x5001 : Shape := ⟨3, ![4, 20, 5001]⟩
abbrev S4x5001x1 : Shape := ⟨3, ![4, 5001, 1]⟩
abbrev S4x5001 : Shape := ⟨2, ![4, 5001]⟩
abbrev S4x1x5001 : Shape := ⟨3, ![4, 1, 5001]⟩
abbrev S5001 : Shape := ⟨1, ![5001]⟩
abbrev S1x5001 : Shape := ⟨2, ![1, 5001]⟩
abbrev S20 : Shape := ⟨1, ![20]⟩
abbrev S20x1 : Shape := ⟨2, ![20, 1]⟩
abbrev S20x5001 : Shape := ⟨2, ![20, 5001]⟩
abbrev S1x20x5001 : Shape := ⟨3, ![1, 20, 5001]⟩
abbrev S1x1x5001 : Shape := ⟨3, ![1, 1, 5001]⟩
abbrev S300 : Shape := ⟨1, ![300]⟩
abbrev S1x1x300 : Shape := ⟨3, ![1, 1, 300]⟩
abbrev S4x20x300 : Shape := ⟨3, ![4, 20, 300]⟩
abbrev S4x20x1 : Shape := ⟨3, ![4, 20, 1]⟩
abbrev S4x20x1x1 : Shape := ⟨4, ![4, 20, 1, 1]⟩
abbrev S4x20x300x1 : Shape := ⟨4, ![4, 20, 300, 1]⟩
abbrev S4x6000 : Shape := ⟨2, ![4, 6000]⟩
abbrev S4x300 : Shape := ⟨2, ![4, 300]⟩
abbrev S4x300x1 : Shape := ⟨3, ![4, 300, 1]⟩
abbrev S4x300x4 : Shape := ⟨3, ![4, 300, 4]⟩

abbrev nBuf : Space → Nat
  | .hbm => 290
  | .vmem => 0
  | .smem => 0
  | _ => 0

abbrev hbmTy0_0 (i : Nat) : BufTy := match i % 128 with
  | 0 => ⟨S4x5000x4, .f32⟩
  | 1 => ⟨S4x5000x20, .f32⟩
  | 2 => ⟨S_, .f32⟩
  | 3 => ⟨S4x1x4, .f32⟩
  | 4 => ⟨S4x5001x4, .f32⟩
  | 5 => ⟨S_, .f32⟩
  | 6 => ⟨S4x1x20, .f32⟩
  | 7 => ⟨S4x5001x20, .f32⟩
  | 8 => ⟨S4x20x5001, .f32⟩
  | 9 => ⟨S4x5001x1, .f32⟩
  | 10 => ⟨S4x5001, .f32⟩
  | 11 => ⟨S4x1x5001, .f32⟩
  | 12 => ⟨S4x20x5001, .f32⟩
  | 13 => ⟨S4x5001x1, .f32⟩
  | 14 => ⟨S4x5001, .f32⟩
  | 15 => ⟨S4x1x5001, .f32⟩
  | 16 => ⟨S4x20x5001, .f32⟩
  | 17 => ⟨S4x5001x1, .f32⟩
  | 18 => ⟨S4x5001, .f32⟩
  | 19 => ⟨S4x1x5001, .f32⟩
  | 20 => ⟨S4x20x5001, .f32⟩
  | 21 => ⟨S4x5001x1, .f32⟩
  | 22 => ⟨S4x5001, .f32⟩
  | 23 => ⟨S4x1x5001, .f32⟩
  | 24 => ⟨S4x20x5001, .f32⟩
  | 25 => ⟨S5001, .i32⟩
  | 26 => ⟨S1x5001, .i32⟩
  | 27 => ⟨S_, .i32⟩
  | 28 => ⟨S1x5001, .i32⟩
  | 29 => ⟨S1x5001, .i1⟩
  | 30 => ⟨S20, .i32⟩
  | 31 => ⟨S20x1, .i32⟩
  | 32 => ⟨S_, .i32⟩
  | 33 => ⟨S20x5001, .i1⟩
  | 34 => ⟨S20x5001, .i32⟩
  | 35 => ⟨S20x5001, .i32⟩
  | 36 => ⟨S20x5001, .i32⟩
  | 37 => ⟨S1x20x5001, .i32⟩
  | 38 => ⟨S4x20x5001, .i32⟩
  | 39 => ⟨S_, .f32⟩
  | 40 => ⟨S4x20x5001, .f32⟩
  | 41 => ⟨S4x20x5001, .i1⟩
  | 42 => ⟨S_, .f32⟩
  | 43 => ⟨S_, .f32⟩
  | 44 => ⟨S4x20x5001, .f32⟩
  | 45 => ⟨S4x20x5001, .f32⟩
  | 46 => ⟨S5001, .i32⟩
  | 47 => ⟨S1x1x5001, .i32⟩
  | 48 => ⟨S300, .i32⟩
  | 49 => ⟨S1x1x300, .i32⟩
  | 50 => ⟨S_, .i32⟩
  | 51 => ⟨S4x20x300, .i32⟩
  | 52 => ⟨S_, .i32⟩
  | 53 => ⟨S_, .i32⟩
  | 54 => ⟨S4x20x5001, .f32⟩
  | 55 => ⟨S4x20x5001, .f32⟩
  | 56 => ⟨S4x20x5001, .f32⟩
  | 57 => ⟨S4x20x5001, .f32⟩
  | 58 => ⟨S1x1x5001, .i32⟩
  | 59 => ⟨S1x1x300, .i32⟩
  | 60 => ⟨S_, .i32⟩
  | 61 => ⟨S_, .i32⟩
  | 62 => ⟨S4x20x5001, .f32⟩
  | 63 => ⟨S4x20x300, .i32⟩
  | 64 => ⟨S_, .i32⟩
  | 65 => ⟨S_, .i1⟩
  | 66 => ⟨S_, .i32⟩
  | 67 => ⟨S_, .i32⟩
  | 68 => ⟨S4x20x1, .f32⟩
  | 69 => ⟨S4x20x1, .i32⟩
  | 70 => ⟨S_, .i32⟩
  | 71 => ⟨S4x20x1, .i32⟩
  | 72 => ⟨S4x20x1, .i1⟩
  | 73 => ⟨S_, .i32⟩
  | 74 => ⟨S4x20x1, .i32⟩
  | 75 => ⟨S4x20x1, .i32⟩
  | 76 => ⟨S4x20x1, .i32⟩
  | 77 => ⟨S4x20x1x1, .i32⟩
  | 78 => ⟨S4x20x1, .f32⟩
  | 79 => ⟨S_, .i32⟩
  | 80 => ⟨S4x20x1, .i32⟩
  | 81 => ⟨S4x20x1, .i1⟩
  | 82 => ⟨S_, .i32⟩
  | 83 => ⟨S4x20x1, .i32⟩
  | 84 => ⟨S4x20x1, .i32⟩
  | 85 => ⟨S4x20x1, .i32⟩
  | 86 => ⟨S4x20x1x1, .i32⟩
  | 87 => ⟨S4x20x1, .f32⟩
  | 88 => ⟨S_, .i32⟩
  | 89 => ⟨S4x20x1, .i32⟩
  | 90 => ⟨S4x20x1, .i1⟩
  | 91 => ⟨S_, .i32⟩
  | 92 => ⟨S4x20x1, .i32⟩
  | 93 => ⟨S4x20x1, .i32⟩
  | 94 => ⟨S4x20x1, .i32⟩
  | 95 => ⟨S4x20x1x1, .i32⟩
  | 96 => ⟨S4x20x1, .f32⟩
  | 97 => ⟨S_, .i32⟩
  | 98 => ⟨S4x20x1, .i32⟩
  | 99 => ⟨S4x20x1, .i1⟩
  | 100 => ⟨S_, .i32⟩
  | 101 => ⟨S4x20x1, .i32⟩
  | 102 => ⟨S4x20x1, .i32⟩
  | 103 => ⟨S4x20x1, .i32⟩
  | 104 => ⟨S4x20x1x1, .i32⟩
  | 105 => ⟨S4x20x1, .f32⟩
  | 106 => ⟨S4x20x5001, .f32⟩
  | 107 => ⟨S4x20x5001, .f32⟩
  | 108 => ⟨S4x20x5001, .f32⟩
  | 109 => ⟨S4x20x5001, .f32⟩
  | 110 => ⟨S4x20x5001, .f32⟩
  | 111 => ⟨S4x20x5001, .f32⟩
  | 112 => ⟨S4x20x5001, .f32⟩
  | 113 => ⟨S4x20x5001, .f32⟩
  | 114 => ⟨S4x20x5001, .f32⟩
  | 115 => ⟨S_, .f32⟩
  | 116 => ⟨S4x20x5001, .f32⟩
  | 117 => ⟨S4x20x5001, .f32⟩
  | 118 => ⟨S4x20x5001, .f32⟩
  | 119 => ⟨S_, .f32⟩
  | 120 => ⟨S4x20x5001, .f32⟩
  | 121 => ⟨S4x20x5001, .f32⟩
  | 122 => ⟨S4x20x5001, .f32⟩
  | 123 => ⟨S4x20x1, .f32⟩
  | 124 => ⟨S_, .f32⟩
  | 125 => ⟨S4x20x1, .f32⟩
  | 126 => ⟨S4x20x1, .f32⟩
  | 127 => ⟨S4x20x1, .f32⟩
  | _ => ⟨S4x5000x4, .f32⟩

abbrev hbmTy0_1 (i : Nat) : BufTy := match i % 128 with
  | 0 => ⟨S_, .f32⟩
  | 1 => ⟨S4x20x1, .f32⟩
  | 2 => ⟨S4x20x1, .f32⟩
  | 3 => ⟨S4x20x1, .f32⟩
  | 4 => ⟨S4x20x5001, .f32⟩
  | 5 => ⟨S_, .f32⟩
  | 6 => ⟨S4x20x5001, .f32⟩
  | 7 => ⟨S4x20x5001, .f32⟩
  | 8 => ⟨S4x20x5001, .f32⟩
  | 9 => ⟨S_, .f32⟩
  | 10 => ⟨S4x20x5001, .f32⟩
  | 11 => ⟨S4x20x5001, .f32⟩
  | 12 => ⟨S4x20x5001, .f32⟩
  | 13 => ⟨S4x20x5001, .f32⟩
  | 14 => ⟨S4x20x5001, .f32⟩
  | 15 => ⟨S4x20x5001, .f32⟩
  | 16 => ⟨S_, .f32⟩
  | 17 => ⟨S4x20x5001, .f32⟩
  | 18 => ⟨S4x20x5001, .i1⟩
  | 19 => ⟨S4x20x5001, .f32⟩
  | 20 => ⟨S_, .f32⟩
  | 21 => ⟨S_, .f32⟩
  | 22 => ⟨S4x20x5001, .f32⟩
  | 23 => ⟨S4x20x5001, .f32⟩
  | 24 => ⟨S_, .f32⟩
  | 25 => ⟨S4x20x5001, .f32⟩
  | 26 => ⟨S4x20x5001, .i1⟩
  | 27 => ⟨S4x20x5001, .i32⟩
  | 28 => ⟨S4x20x5001, .i32⟩
  | 29 => ⟨S4x20x5001, .i1⟩
  | 30 => ⟨S4x20x5001, .i1⟩
  | 31 => ⟨S_, .f32⟩
  | 32 => ⟨S_, .f32⟩
  | 33 => ⟨S4x20x5001, .f32⟩
  | 34 => ⟨S4x20x5001, .f32⟩
  | 35 => ⟨S_, .i32⟩
  | 36 => ⟨S1x1x300, .i32⟩
  | 37 => ⟨S1x1x300, .i1⟩
  | 38 => ⟨S_, .f32⟩
  | 39 => ⟨S4x20x1, .f32⟩
  | 40 => ⟨S4x20x1, .i1⟩
  | 41 => ⟨S_, .i32⟩
  | 42 => ⟨S_, .i32⟩
  | 43 => ⟨S4x20x1, .i32⟩
  | 44 => ⟨S4x20x1, .i32⟩
  | 45 => ⟨S4x20x300, .i1⟩
  | 46 => ⟨S4x20x300, .i32⟩
  | 47 => ⟨S4x20x300, .i32⟩
  | 48 => ⟨S_, .i32⟩
  | 49 => ⟨S_, .i32⟩
  | 50 => ⟨S_, .i32⟩
  | 51 => ⟨S4x20x300, .i32⟩
  | 52 => ⟨S4x20x300, .i1⟩
  | 53 => ⟨S_, .i32⟩
  | 54 => ⟨S4x20x300, .i32⟩
  | 55 => ⟨S4x20x300, .i32⟩
  | 56 => ⟨S4x20x300, .i32⟩
  | 57 => ⟨S4x20x300x1, .i32⟩
  | 58 => ⟨S4x20x300, .f32⟩
  | 59 => ⟨S4x6000, .f32⟩
  | 60 => ⟨S4x300, .f32⟩
  | 61 => ⟨S4x300, .i32⟩
  | 62 => ⟨S_, .i32⟩
  | 63 => ⟨S4x20x300, .i32⟩
  | 64 => ⟨S4x20x300, .i1⟩
  | 65 => ⟨S_, .i32⟩
  | 66 => ⟨S4x20x300, .i32⟩
  | 67 => ⟨S4x20x300, .i32⟩
  | 68 => ⟨S4x20x300, .i32⟩
  | 69 => ⟨S4x20x300x1, .i32⟩
  | 70 => ⟨S4x20x300, .f32⟩
  | 71 => ⟨S4x6000, .f32⟩
  | 72 => ⟨S_, .i32⟩
  | 73 => ⟨S4x300, .i32⟩
  | 74 => ⟨S4x300, .i1⟩
  | 75 => ⟨S_, .i32⟩
  | 76 => ⟨S4x300, .i32⟩
  | 77 => ⟨S4x300, .i32⟩
  | 78 => ⟨S4x300, .i32⟩
  | 79 => ⟨S4x300x1, .i32⟩
  | 80 => ⟨S4x300, .f32⟩
  | 81 => ⟨S_, .i32⟩
  | 82 => ⟨S4x20x300, .i32⟩
  | 83 => ⟨S4x20x300, .i1⟩
  | 84 => ⟨S_, .i32⟩
  | 85 => ⟨S4x20x300, .i32⟩
  | 86 => ⟨S4x20x300, .i32⟩
  | 87 => ⟨S4x20x300, .i32⟩
  | 88 => ⟨S4x20x300x1, .i32⟩
  | 89 => ⟨S4x20x300, .f32⟩
  | 90 => ⟨S4x6000, .f32⟩
  | 91 => ⟨S_, .i32⟩
  | 92 => ⟨S4x300, .i32⟩
  | 93 => ⟨S4x300, .i1⟩
  | 94 => ⟨S_, .i32⟩
  | 95 => ⟨S4x300, .i32⟩
  | 96 => ⟨S4x300, .i32⟩
  | 97 => ⟨S4x300, .i32⟩
  | 98 => ⟨S4x300x1, .i32⟩
  | 99 => ⟨S4x300, .f32⟩
  | 100 => ⟨S_, .i32⟩
  | 101 => ⟨S4x20x300, .i32⟩
  | 102 => ⟨S4x20x300, .i1⟩
  | 103 => ⟨S_, .i32⟩
  | 104 => ⟨S4x20x300, .i32⟩
  | 105 => ⟨S4x20x300, .i32⟩
  | 106 => ⟨S4x20x300, .i32⟩
  | 107 => ⟨S4x20x300x1, .i32⟩
  | 108 => ⟨S4x20x300, .f32⟩
  | 109 => ⟨S4x6000, .f32⟩
  | 110 => ⟨S_, .i32⟩
  | 111 => ⟨S4x300, .i32⟩
  | 112 => ⟨S4x300, .i1⟩
  | 113 => ⟨S_, .i32⟩
  | 114 => ⟨S4x300, .i32⟩
  | 115 => ⟨S4x300, .i32⟩
  | 116 => ⟨S4x300, .i32⟩
  | 117 => ⟨S4x300x1, .i32⟩
  | 118 => ⟨S4x300, .f32⟩
  | 119 => ⟨S_, .i32⟩
  | 120 => ⟨S4x20x300, .i32⟩
  | 121 => ⟨S4x20x300, .i1⟩
  | 122 => ⟨S_, .i32⟩
  | 123 => ⟨S4x20x300, .i32⟩
  | 124 => ⟨S4x20x300, .i32⟩
  | 125 => ⟨S4x20x300, .i32⟩
  | 126 => ⟨S4x20x300x1, .i32⟩
  | 127 => ⟨S4x20x300, .f32⟩
  | _ => ⟨S4x5000x4, .f32⟩

abbrev hbmTy0_2 (i : Nat) : BufTy := match i % 128 with
  | 0 => ⟨S4x6000, .f32⟩
  | 1 => ⟨S_, .i32⟩
  | 2 => ⟨S4x300, .i32⟩
  | 3 => ⟨S4x300, .i1⟩
  | 4 => ⟨S_, .i32⟩
  | 5 => ⟨S4x300, .i32⟩
  | 6 => ⟨S4x300, .i32⟩
  | 7 => ⟨S4x300, .i32⟩
  | 8 => ⟨S4x300x1, .i32⟩
  | 9 => ⟨S4x300, .f32⟩
  | 10 => ⟨S4x300x1, .f32⟩
  | 11 => ⟨S4x300x1, .f32⟩
  | 12 => ⟨S4x300x1, .f32⟩
  | 13 => ⟨S4x300x1, .f32⟩
  | 14 => ⟨S4x300x4, .f32⟩
  | 15 => ⟨S_, .i32⟩
  | 16 => ⟨S4x20x300, .i32⟩
  | 17 => ⟨S4x20x300, .i1⟩
  | 18 => ⟨S_, .i32⟩
  | 19 => ⟨S4x20x300, .i32⟩
  | 20 => ⟨S4x20x300, .i32⟩
  | 21 => ⟨S4x20x300, .i32⟩
  | 22 => ⟨S4x20x300x1, .i32⟩
  | 23 => ⟨S4x20x300, .i32⟩
  | 24 => ⟨S4x6000, .i32⟩
  | 25 => ⟨S_, .i32⟩
  | 26 => ⟨S4x300, .i32⟩
  | 27 => ⟨S4x300, .i1⟩
  | 28 => ⟨S_, .i32⟩
  | 29 => ⟨S4x300, .i32⟩
  | 30 => ⟨S4x300, .i32⟩
  | 31 => ⟨S4x300, .i32⟩
  | 32 => ⟨S4x300x1, .i32⟩
  | 33 => ⟨S4x300, .i32⟩
  | _ => ⟨S4x5000x4, .f32⟩

abbrev hbmTy (i : Nat) : BufTy := match i / 128 with
  | 0 => hbmTy0_0 i
  | 1 => hbmTy0_1 i
  | 2 => hbmTy0_2 i
  | _ => ⟨S4x5000x4, .f32⟩

abbrev bufTy : (tb : Table) → Fin (tcTables nBuf tb) → BufTy
  | .hbm, ⟨i, _⟩ => hbmTy i
  | _, _ => ⟨S4x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_c_5 : Ref sig .tc := ⟨.hbm, 52, rfl⟩
abbrev main_c_6 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev main_v38_4 : Ref sig .tc := ⟨.hbm, 58, rfl⟩
abbrev main_v38_5 : Ref sig .tc := ⟨.hbm, 59, rfl⟩
abbrev main_v38_6 : Ref sig .tc := ⟨.hbm, 60, rfl⟩
abbrev main_v38_7 : Ref sig .tc := ⟨.hbm, 61, rfl⟩
abbrev main_v38_8 : Ref sig .tc := ⟨.hbm, 62, rfl⟩
abbrev main_v38_9 : Ref sig .tc := ⟨.hbm, 63, rfl⟩
abbrev main_while0c_c_16 : Ref sig .tc := ⟨.hbm, 64, rfl⟩
abbrev main_while0c_v61 : Ref sig .tc := ⟨.hbm, 65, rfl⟩
abbrev main_while0b_c_16 : Ref sig .tc := ⟨.hbm, 66, rfl⟩
abbrev main_while0b_v61 : Ref sig .tc := ⟨.hbm, 67, rfl⟩
abbrev main_while0b_values_17 : Ref sig .tc := ⟨.hbm, 68, rfl⟩
abbrev main_while0b_indices_18 : Ref sig .tc := ⟨.hbm, 69, rfl⟩
abbrev main_while0b_call2_c : Ref sig .tc := ⟨.hbm, 70, rfl⟩
abbrev main_while0b_call2_v0 : Ref sig .tc := ⟨.hbm, 71, rfl⟩
abbrev main_while0b_call2_v1 : Ref sig .tc := ⟨.hbm, 72, rfl⟩
abbrev main_while0b_call2_c_0 : Ref sig .tc := ⟨.hbm, 73, rfl⟩
abbrev main_while0b_call2_v2 : Ref sig .tc := ⟨.hbm, 74, rfl⟩
abbrev main_while0b_call2_v3 : Ref sig .tc := ⟨.hbm, 75, rfl⟩
abbrev main_while0b_call2_v4 : Ref sig .tc := ⟨.hbm, 76, rfl⟩
abbrev main_while0b_call2_v5 : Ref sig .tc := ⟨.hbm, 77, rfl⟩
abbrev main_while0b_v62 : Ref sig .tc := ⟨.hbm, 78, rfl⟩
abbrev main_while0b_call3_c : Ref sig .tc := ⟨.hbm, 79, rfl⟩
abbrev main_while0b_call3_v0 : Ref sig .tc := ⟨.hbm, 80, rfl⟩
abbrev main_while0b_call3_v1 : Ref sig .tc := ⟨.hbm, 81, rfl⟩
abbrev main_while0b_call3_c_0 : Ref sig .tc := ⟨.hbm, 82, rfl⟩
abbrev main_while0b_call3_v2 : Ref sig .tc := ⟨.hbm, 83, rfl⟩
abbrev main_while0b_call3_v3 : Ref sig .tc := ⟨.hbm, 84, rfl⟩
abbrev main_while0b_call3_v4 : Ref sig .tc := ⟨.hbm, 85, rfl⟩
abbrev main_while0b_call3_v5 : Ref sig .tc := ⟨.hbm, 86, rfl⟩
abbrev main_while0b_v63 : Ref sig .tc := ⟨.hbm, 87, rfl⟩
abbrev main_while0b_call4_c : Ref sig .tc := ⟨.hbm, 88, rfl⟩
abbrev main_while0b_call4_v0 : Ref sig .tc := ⟨.hbm, 89, rfl⟩
abbrev main_while0b_call4_v1 : Ref sig .tc := ⟨.hbm, 90, rfl⟩
abbrev main_while0b_call4_c_0 : Ref sig .tc := ⟨.hbm, 91, rfl⟩
abbrev main_while0b_call4_v2 : Ref sig .tc := ⟨.hbm, 92, rfl⟩
abbrev main_while0b_call4_v3 : Ref sig .tc := ⟨.hbm, 93, rfl⟩
abbrev main_while0b_call4_v4 : Ref sig .tc := ⟨.hbm, 94, rfl⟩
abbrev main_while0b_call4_v5 : Ref sig .tc := ⟨.hbm, 95, rfl⟩
abbrev main_while0b_v64 : Ref sig .tc := ⟨.hbm, 96, rfl⟩
abbrev main_while0b_call5_c : Ref sig .tc := ⟨.hbm, 97, rfl⟩
abbrev main_while0b_call5_v0 : Ref sig .tc := ⟨.hbm, 98, rfl⟩
abbrev main_while0b_call5_v1 : Ref sig .tc := ⟨.hbm, 99, rfl⟩
abbrev main_while0b_call5_c_0 : Ref sig .tc := ⟨.hbm, 100, rfl⟩
abbrev main_while0b_call5_v2 : Ref sig .tc := ⟨.hbm, 101, rfl⟩
abbrev main_while0b_call5_v3 : Ref sig .tc := ⟨.hbm, 102, rfl⟩
abbrev main_while0b_call5_v4 : Ref sig .tc := ⟨.hbm, 103, rfl⟩
abbrev main_while0b_call5_v5 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_cst_19 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_cst_20 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_cst_21 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_cst_22 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_cst_23 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_cst_24 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_cst_25 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_cst_26 : Ref sig .tc := ⟨.hbm, 148, rfl⟩
abbrev main_while0b_call6_v0 : Ref sig .tc := ⟨.hbm, 149, rfl⟩
abbrev main_while0b_call6_v1 : Ref sig .tc := ⟨.hbm, 150, rfl⟩
abbrev main_while0b_v101 : Ref sig .tc := ⟨.hbm, 151, rfl⟩
abbrev main_while0b_cst_27 : Ref sig .tc := ⟨.hbm, 152, rfl⟩
abbrev main_while0b_v102 : Ref sig .tc := ⟨.hbm, 153, rfl⟩
abbrev main_while0b_v103 : Ref sig .tc := ⟨.hbm, 154, rfl⟩
abbrev main_while0b_v104 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_cst_28 : Ref sig .tc := ⟨.hbm, 159, rfl⟩
abbrev main_while0b_call7_v0 : Ref sig .tc := ⟨.hbm, 160, rfl⟩
abbrev main_while0b_call7_v1 : Ref sig .tc := ⟨.hbm, 161, rfl⟩
abbrev main_while0b_v108 : Ref sig .tc := ⟨.hbm, 162, rfl⟩
abbrev main_while0b_v109 : Ref sig .tc := ⟨.hbm, 163, rfl⟩
abbrev main_while0b_v110 : Ref sig .tc := ⟨.hbm, 164, rfl⟩
abbrev main_while0b_v111 : Ref sig .tc := ⟨.hbm, 165, rfl⟩
abbrev main_while0b_cst_29 : Ref sig .tc := ⟨.hbm, 166, rfl⟩
abbrev main_while0b_v112 : Ref sig .tc := ⟨.hbm, 167, rfl⟩
abbrev main_while0b_v113 : Ref sig .tc := ⟨.hbm, 168, rfl⟩
abbrev main_while0b_c_30 : Ref sig .tc := ⟨.hbm, 169, rfl⟩
abbrev main_while0b_call8_v0 : Ref sig .tc := ⟨.hbm, 170, rfl⟩
abbrev main_while0b_call8_v1 : Ref sig .tc := ⟨.hbm, 171, rfl⟩
abbrev main_while0b_v114 : Ref sig .tc := ⟨.hbm, 172, rfl⟩
abbrev main_while0b_call9_v0 : Ref sig .tc := ⟨.hbm, 173, rfl⟩
abbrev main_while0b_call9_v1 : Ref sig .tc := ⟨.hbm, 174, rfl⟩
abbrev main_while0b_v115 : Ref sig .tc := ⟨.hbm, 175, rfl⟩
abbrev main_while0b_c_31 : Ref sig .tc := ⟨.hbm, 176, rfl⟩
abbrev main_while0b_v116 : Ref sig .tc := ⟨.hbm, 177, rfl⟩
abbrev main_call10_c : Ref sig .tc := ⟨.hbm, 178, rfl⟩
abbrev main_call10_v0 : Ref sig .tc := ⟨.hbm, 179, rfl⟩
abbrev main_call10_v1 : Ref sig .tc := ⟨.hbm, 180, rfl⟩
abbrev main_call10_c_0 : Ref sig .tc := ⟨.hbm, 181, rfl⟩
abbrev main_call10_v2 : Ref sig .tc := ⟨.hbm, 182, rfl⟩
abbrev main_call10_v3 : Ref sig .tc := ⟨.hbm, 183, rfl⟩
abbrev main_call10_v4 : Ref sig .tc := ⟨.hbm, 184, rfl⟩
abbrev main_call10_v5 : Ref sig .tc := ⟨.hbm, 185, rfl⟩
abbrev main_v39 : Ref sig .tc := ⟨.hbm, 186, rfl⟩
abbrev main_v40 : Ref sig .tc := ⟨.hbm, 187, rfl⟩
abbrev main_values : Ref sig .tc := ⟨.hbm, 188, rfl⟩
abbrev main_indices : Ref sig .tc := ⟨.hbm, 189, rfl⟩
abbrev main_call11_c : Ref sig .tc := ⟨.hbm, 190, rfl⟩
abbrev main_call11_v0 : Ref sig .tc := ⟨.hbm, 191, rfl⟩
abbrev main_call11_v1 : Ref sig .tc := ⟨.hbm, 192, rfl⟩
abbrev main_call11_c_0 : Ref sig .tc := ⟨.hbm, 193, rfl⟩
abbrev main_call11_v2 : Ref sig .tc := ⟨.hbm, 194, rfl⟩
abbrev main_call11_v3 : Ref sig .tc := ⟨.hbm, 195, rfl⟩
abbrev main_call11_v4 : Ref sig .tc := ⟨.hbm, 196, rfl⟩
abbrev main_call11_v5 : Ref sig .tc := ⟨.hbm, 197, rfl⟩
abbrev main_v41 : Ref sig .tc := ⟨.hbm, 198, rfl⟩
abbrev main_v42 : Ref sig .tc := ⟨.hbm, 199, rfl⟩
abbrev main_call12_c : Ref sig .tc := ⟨.hbm, 200, rfl⟩
abbrev main_call12_v0 : Ref sig .tc := ⟨.hbm, 201, rfl⟩
abbrev main_call12_v1 : Ref sig .tc := ⟨.hbm, 202, rfl⟩
abbrev main_call12_c_0 : Ref sig .tc := ⟨.hbm, 203, rfl⟩
abbrev main_call12_v2 : Ref sig .tc := ⟨.hbm, 204, rfl⟩
abbrev main_call12_v3 : Ref sig .tc := ⟨.hbm, 205, rfl⟩
abbrev main_call12_v4 : Ref sig .tc := ⟨.hbm, 206, rfl⟩
abbrev main_call12_v5 : Ref sig .tc := ⟨.hbm, 207, rfl⟩
abbrev main_v43 : Ref sig .tc := ⟨.hbm, 208, rfl⟩
abbrev main_call13_c : Ref sig .tc := ⟨.hbm, 209, rfl⟩
abbrev main_call13_v0 : Ref sig .tc := ⟨.hbm, 210, rfl⟩
abbrev main_call13_v1 : Ref sig .tc := ⟨.hbm, 211, rfl⟩
abbrev main_call13_c_0 : Ref sig .tc := ⟨.hbm, 212, rfl⟩
abbrev main_call13_v2 : Ref sig .tc := ⟨.hbm, 213, rfl⟩
abbrev main_call13_v3 : Ref sig .tc := ⟨.hbm, 214, rfl⟩
abbrev main_call13_v4 : Ref sig .tc := ⟨.hbm, 215, rfl⟩
abbrev main_call13_v5 : Ref sig .tc := ⟨.hbm, 216, rfl⟩
abbrev main_v44 : Ref sig .tc := ⟨.hbm, 217, rfl⟩
abbrev main_v45 : Ref sig .tc := ⟨.hbm, 218, rfl⟩
abbrev main_call14_c : Ref sig .tc := ⟨.hbm, 219, rfl⟩
abbrev main_call14_v0 : Ref sig .tc := ⟨.hbm, 220, rfl⟩
abbrev main_call14_v1 : Ref sig .tc := ⟨.hbm, 221, rfl⟩
abbrev main_call14_c_0 : Ref sig .tc := ⟨.hbm, 222, rfl⟩
abbrev main_call14_v2 : Ref sig .tc := ⟨.hbm, 223, rfl⟩
abbrev main_call14_v3 : Ref sig .tc := ⟨.hbm, 224, rfl⟩
abbrev main_call14_v4 : Ref sig .tc := ⟨.hbm, 225, rfl⟩
abbrev main_call14_v5 : Ref sig .tc := ⟨.hbm, 226, rfl⟩
abbrev main_v46 : Ref sig .tc := ⟨.hbm, 227, rfl⟩
abbrev main_call15_c : Ref sig .tc := ⟨.hbm, 228, rfl⟩
abbrev main_call15_v0 : Ref sig .tc := ⟨.hbm, 229, rfl⟩
abbrev main_call15_v1 : Ref sig .tc := ⟨.hbm, 230, rfl⟩
abbrev main_call15_c_0 : Ref sig .tc := ⟨.hbm, 231, rfl⟩
abbrev main_call15_v2 : Ref sig .tc := ⟨.hbm, 232, rfl⟩
abbrev main_call15_v3 : Ref sig .tc := ⟨.hbm, 233, rfl⟩
abbrev main_call15_v4 : Ref sig .tc := ⟨.hbm, 234, rfl⟩
abbrev main_call15_v5 : Ref sig .tc := ⟨.hbm, 235, rfl⟩
abbrev main_v47 : Ref sig .tc := ⟨.hbm, 236, rfl⟩
abbrev main_v48 : Ref sig .tc := ⟨.hbm, 237, rfl⟩
abbrev main_call16_c : Ref sig .tc := ⟨.hbm, 238, rfl⟩
abbrev main_call16_v0 : Ref sig .tc := ⟨.hbm, 239, rfl⟩
abbrev main_call16_v1 : Ref sig .tc := ⟨.hbm, 240, rfl⟩
abbrev main_call16_c_0 : Ref sig .tc := ⟨.hbm, 241, rfl⟩
abbrev main_call16_v2 : Ref sig .tc := ⟨.hbm, 242, rfl⟩
abbrev main_call16_v3 : Ref sig .tc := ⟨.hbm, 243, rfl⟩
abbrev main_call16_v4 : Ref sig .tc := ⟨.hbm, 244, rfl⟩
abbrev main_call16_v5 : Ref sig .tc := ⟨.hbm, 245, rfl⟩
abbrev main_v49 : Ref sig .tc := ⟨.hbm, 246, rfl⟩
abbrev main_call17_c : Ref sig .tc := ⟨.hbm, 247, rfl⟩
abbrev main_call17_v0 : Ref sig .tc := ⟨.hbm, 248, rfl⟩
abbrev main_call17_v1 : Ref sig .tc := ⟨.hbm, 249, rfl⟩
abbrev main_call17_c_0 : Ref sig .tc := ⟨.hbm, 250, rfl⟩
abbrev main_call17_v2 : Ref sig .tc := ⟨.hbm, 251, rfl⟩
abbrev main_call17_v3 : Ref sig .tc := ⟨.hbm, 252, rfl⟩
abbrev main_call17_v4 : Ref sig .tc := ⟨.hbm, 253, rfl⟩
abbrev main_call17_v5 : Ref sig .tc := ⟨.hbm, 254, rfl⟩
abbrev main_v50 : Ref sig .tc := ⟨.hbm, 255, rfl⟩
abbrev main_v51 : Ref sig .tc := ⟨.hbm, 256, rfl⟩
abbrev main_call18_c : Ref sig .tc := ⟨.hbm, 257, rfl⟩
abbrev main_call18_v0 : Ref sig .tc := ⟨.hbm, 258, rfl⟩
abbrev main_call18_v1 : Ref sig .tc := ⟨.hbm, 259, rfl⟩
abbrev main_call18_c_0 : Ref sig .tc := ⟨.hbm, 260, rfl⟩
abbrev main_call18_v2 : Ref sig .tc := ⟨.hbm, 261, rfl⟩
abbrev main_call18_v3 : Ref sig .tc := ⟨.hbm, 262, rfl⟩
abbrev main_call18_v4 : Ref sig .tc := ⟨.hbm, 263, rfl⟩
abbrev main_call18_v5 : Ref sig .tc := ⟨.hbm, 264, rfl⟩
abbrev main_v52 : Ref sig .tc := ⟨.hbm, 265, rfl⟩
abbrev main_v53 : Ref sig .tc := ⟨.hbm, 266, rfl⟩
abbrev main_v54 : Ref sig .tc := ⟨.hbm, 267, rfl⟩
abbrev main_v55 : Ref sig .tc := ⟨.hbm, 268, rfl⟩
abbrev main_v56 : Ref sig .tc := ⟨.hbm, 269, rfl⟩
abbrev main_v57 : Ref sig .tc := ⟨.hbm, 270, rfl⟩
abbrev main_call19_c : Ref sig .tc := ⟨.hbm, 271, rfl⟩
abbrev main_call19_v0 : Ref sig .tc := ⟨.hbm, 272, rfl⟩
abbrev main_call19_v1 : Ref sig .tc := ⟨.hbm, 273, rfl⟩
abbrev main_call19_c_0 : Ref sig .tc := ⟨.hbm, 274, rfl⟩
abbrev main_call19_v2 : Ref sig .tc := ⟨.hbm, 275, rfl⟩
abbrev main_call19_v3 : Ref sig .tc := ⟨.hbm, 276, rfl⟩
abbrev main_call19_v4 : Ref sig .tc := ⟨.hbm, 277, rfl⟩
abbrev main_call19_v5 : Ref sig .tc := ⟨.hbm, 278, rfl⟩
abbrev main_v58 : Ref sig .tc := ⟨.hbm, 279, rfl⟩
abbrev main_v59 : Ref sig .tc := ⟨.hbm, 280, rfl⟩
abbrev main_call20_c : Ref sig .tc := ⟨.hbm, 281, rfl⟩
abbrev main_call20_v0 : Ref sig .tc := ⟨.hbm, 282, rfl⟩
abbrev main_call20_v1 : Ref sig .tc := ⟨.hbm, 283, rfl⟩
abbrev main_call20_c_0 : Ref sig .tc := ⟨.hbm, 284, rfl⟩
abbrev main_call20_v2 : Ref sig .tc := ⟨.hbm, 285, rfl⟩
abbrev main_call20_v3 : Ref sig .tc := ⟨.hbm, 286, rfl⟩
abbrev main_call20_v4 : Ref sig .tc := ⟨.hbm, 287, rfl⟩
abbrev main_call20_v5 : Ref sig .tc := ⟨.hbm, 288, rfl⟩
abbrev main_v60 : Ref sig .tc := ⟨.hbm, 289, rfl⟩

abbrev nD : Nat := 1
abbrev τ : Topo := Topo.v7x

variable {F : FTy → Type} [FloatOps F]

abbrev main_while0_count : Scf.Loop 32 := ⟨0#32, 300#32, 1#32⟩
-- ==== Proof.Runs.lean ====
/-
  A weakest-precondition reading of a body that only loads and stores: `Runs S p h Q` says that the program `p`,
  started on the buffer contents `h`, touches only buffers in `S` and ends in a value and contents that satisfy `Q`.
  `wp_of_runs` turns such a statement into a triple over the points-to facts of the buffers in `S`.
-/
module

public import Idealize.ShloMosaic.Lib.Pipeline.FrameBody
public import Idealize.ShloMosaic.Lib.Pipeline.FrameSuffix
public import Idealize.ShloMosaic.Lib.Tactic

@[expose] public section

noncomputable section

namespace Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}

/-- Contents of every buffer that the TensorCore names. -/
abbrev Heap (sig : RefSig) (Val : EltTy → Type) := (b : Ref sig .tc) → b.ty.Contents Val

/-- The program, from the contents `h`, loads and stores only buffers of `S` and ends in a value and contents
    satisfying `Q`. -/
def Runs (S : Finset (Ref sig .tc)) {α : Type} : Prog (TpuEff nD τ sig Val Λ .tc) α → Heap sig Val → (α → Heap sig Val → Prop) → Prop
  | .ret a, h, Q => Q a h
  | .op (.load m r _) k, h, Q => m.view.ref ∈ S ∧ Runs S (k (m.view.readAt Val r (h m.view.ref))) h Q
  | .op (.store m r w Mk _ _) k, h, Q => m.view.ref ∈ S ∧
      Runs S (k ⟨⟩) (Function.update h m.view.ref ((m.access r).write Val (h m.view.ref) w Mk)) Q
  | .op _ _, _, _ => False

variable {S : Finset (Ref sig .tc)} {α β : Type}

/-- A sequence runs when its head runs to contents from which the rest runs. -/
theorem runs_bind (p : Prog (TpuEff nD τ sig Val Λ .tc) α) (k : α → Prog (TpuEff nD τ sig Val Λ .tc) β)
    (h : Heap sig Val) (Q : β → Heap sig Val → Prop) :
    Runs S (p >>= k) h Q ↔ Runs S p h (fun a h' => Runs S (k a) h' Q) := by
  induction p generalizing h with
  | ret a => exact Iff.rfl
  | op e c ih =>
    cases e <;> first | exact Iff.rfl | (simp only [Prog.bind_op, Runs]; exact and_congr Iff.rfl (ih _ _))

/-- A weaker postcondition. -/
theorem Runs.mono {p : Prog (TpuEff nD τ sig Val Λ .tc) α} {h : Heap sig Val} {Q Q' : α → Heap sig Val → Prop}
    (hp : Runs S p h Q) (hQ : ∀ a h', Q a h' → Q' a h') : Runs S p h Q' := by
  induction p generalizing h with
  | ret a => exact hQ _ _ hp
  | op e c ih =>
    cases e <;> first | exact hp | exact ⟨hp.1, ih _ hp.2⟩

/-- The program loads and stores buffers of `S` only, whatever it reads. -/
def Safe (S : Finset (Ref sig .tc)) {α : Type} : Prog (TpuEff nD τ sig Val Λ .tc) α → Prop
  | .ret _ => True
  | .op (.load m _ _) k => m.view.ref ∈ S ∧ ∀ x, Safe S (k x)
  | .op (.store m _ _ _ _ _) k => m.view.ref ∈ S ∧ ∀ x, Safe S (k x)
  | .op _ _ => False

theorem safe_ret (a : α) : Safe S (.ret a : Prog (TpuEff nD τ sig Val Λ .tc) α) := trivial

theorem safe_pure (a : α) : Safe S (pure a : Prog (TpuEff nD τ sig Val Λ .tc) α) := trivial

theorem safe_bind {p : Prog (TpuEff nD τ sig Val Λ .tc) α} {k : α → Prog (TpuEff nD τ sig Val Λ .tc) β}
    (hp : Safe S p) (hk : ∀ a, Safe S (k a)) : Safe S (p >>= k) := by
  induction p with
  | ret a => exact hk a
  | op e c ih =>
    cases e <;> first | exact hp | exact ⟨hp.1, fun x => ih x (hp.2 x)⟩

theorem safe_load {cs : CoreSpace} {s : Shape} {e : EltTy} (m : Memref sig .tc cs s e) (r : LoadRect s) (hl : m.view.LoadsAt r)
    (hm : m.view.ref ∈ S) : Safe S (Prog.lift (.load m r hl : TpuEff nD τ sig Val Λ .tc _)) := ⟨hm, fun _ => trivial⟩

theorem safe_store {cs : CoreSpace} {s : Shape} {e : EltTy} (m : Memref sig .tc cs s e) (r : Rect s) (w : r.shape.Idx → Val e)
    (M : Finset r.shape.Idx) (hs : (m.access r).Stores M) (hx : M = Finset.univ ∨ ∀ a, r.stride a = 1)
    (hm : m.view.ref ∈ S) : Safe S (Prog.lift (.store m r w M hs hx : TpuEff nD τ sig Val Λ .tc _)) := ⟨hm, fun _ => trivial⟩

theorem safe_for {w : ℕ} (lb ub st : BitVec w) (hok : Scf.OK lb ub st) (init : α)
    (body : Fin (Scf.trips lb ub st) → α → Prog (TpuEff nD τ sig Val Λ .tc) α) (hb : ∀ i a, Safe S (body i a)) :
    Safe S (Scf.for lb ub st hok init body) := by
  rw [Scf.for_eq]
  generalize List.finRange _ = l
  induction l generalizing init with
  | nil => trivial
  | cons i l ih => exact safe_bind (hb i init) fun a => ih a

/-- A conditional touches nothing else when both branches do not. -/
theorem safe_ite {c : Prop} [Decidable c] {p q : Prog (TpuEff nD τ sig Val Λ .tc) α} (hp : Safe S p) (hq : Safe S q) :
    Safe S (if c then p else q) := by
  split <;> assumption

/-- A loop runs when each trip keeps an invariant. -/
theorem runs_forFrom {n : ℕ} (body : Fin n → α → Prog (TpuEff nD τ sig Val Λ .tc) α)
    (I : ℕ → α → Heap sig Val → Prop) (hb : ∀ (i : Fin n) a h, I i a h → Runs S (body i a) h (I (i + 1))) :
    ∀ (d k : ℕ) (_ : k + d = n) (a : α) (h : Heap sig Val), I k a h →
      Runs S (Scf.forFrom body ((List.finRange n).drop k) a) h (I n) := by
  intro d
  induction d with
  | zero =>
    intro k hk a h hI
    rw [List.drop_eq_nil_of_le (by simp; omega)]
    have : k = n := by omega
    subst this
    exact hI
  | succ d ih =>
    intro k hk a h hI
    have hlt : k < (List.finRange n).length := by simp; omega
    rw [List.drop_eq_getElem_cons hlt, Scf.forFrom_cons, runs_bind]
    have hi : (List.finRange n)[k] = ⟨k, by omega⟩ := by simp
    rw [hi]
    exact (hb ⟨k, by omega⟩ a h hI).mono fun a' h' hI' => ih (k + 1) (by omega) a' h' hI'

theorem runs_for {w : ℕ} (lb ub st : BitVec w) (hok : Scf.OK lb ub st) (init : α)
    (body : Fin (Scf.trips lb ub st) → α → Prog (TpuEff nD τ sig Val Λ .tc) α)
    (I : ℕ → α → Heap sig Val → Prop) (h : Heap sig Val) (h0 : I 0 init h)
    (hb : ∀ (i : Fin (Scf.trips lb ub st)) a h, I i a h → Runs S (body i a) h (I (i + 1)))
    (Q : α → Heap sig Val → Prop) (hQ : ∀ a h, I (Scf.trips lb ub st) a h → Q a h) :
    Runs S (Scf.for lb ub st hok init body) h Q := by
  rw [Scf.for_eq]
  have := runs_forFrom body I hb (Scf.trips lb ub st) 0 (by omega) init h h0
  rw [List.drop_zero] at this
  exact this.mono hQ

/-- A program that is safe runs to some contents. -/
theorem Safe.runs {p : Prog (TpuEff nD τ sig Val Λ .tc) α} (hp : Safe S p) (h : Heap sig Val) :
    Runs S p h (fun _ _ => True) := by
  induction p generalizing h with
  | ret a => trivial
  | op e c ih =>
    cases e <;> first | exact hp | exact ⟨hp.1, ih _ (hp.2 _) _⟩

section Wp

variable {Ix : Type} [DecidableEq Ix] {Name : Type} [DecidableEq Name] {U : Type} [URA U] {Lvl : Type} [Preorder Lvl]
local notation "𝕄" => MT nD τ sig Ix Val Name U Lvl

/-- The buffers of `S`, each whole at `h`. -/
def pts (c : Dev nD) (S : Finset (Ref sig .tc)) (h : Heap sig Val) : sProp 𝕄 :=
  bigSep S fun b => ((c : Thread nD τ).loc b) ↦{fullShare} h b

theorem pts_update (c : Dev nD) (S : Finset (Ref sig .tc)) (h : Heap sig Val) (b : Ref sig .tc) (hb : b ∈ S)
    (f : b.ty.Contents Val) :
    (pts c S (Function.update h b f) : sProp 𝕄)
      = iprop((((c : Thread nD τ).loc b) ↦{fullShare} f) ∗ bigSep (S.erase b) fun b => ((c : Thread nD τ).loc b) ↦{fullShare} h b) := by
  unfold pts
  rw [BI.bigSep_erase hb, Function.update_self]
  congr 1
  refine bigSep_congr fun x hx => ?_
  rw [Function.update_of_ne (Finset.ne_of_mem_erase hx)]

theorem pts_take (c : Dev nD) (S : Finset (Ref sig .tc)) (h : Heap sig Val) (b : Ref sig .tc) (hb : b ∈ S) :
    (pts c S h : sProp 𝕄)
      = iprop((((c : Thread nD τ).loc b) ↦{fullShare} h b) ∗ bigSep (S.erase b) fun b => ((c : Thread nD τ).loc b) ↦{fullShare} h b) := by
  unfold pts
  rw [BI.bigSep_erase hb]
  rfl

variable {defs : Defs nD τ sig Val Λ} (𝒱 : Variants) (c : Dev nD) (bd : Option 𝒱.V) {Γ : PendingWaitsCtx sig Ix} (E : Set Name)

/-- From the buffers of `S` at `h`, a program that runs is a triple: it ends holding the buffers at contents that
    satisfy the postcondition. -/
theorem wp_of_runs (p : Prog (TpuEff nD τ sig Val Λ .tc) α) (h : Heap sig Val) (Q : α → Heap sig Val → Prop) (hp : Runs S p h Q)
    (K : α → sProp 𝕄) :
    iprop(pts c S h ∗ (∀ a h', ⌜Q a h'⌝ -∗ pts c S h' -∗ K a))
      ⊢ wp frame (wpE' defs 𝒱 (c : Thread nD τ) bd Γ) E p K := by
  induction p generalizing h with
  | ret a =>
    refine BIBase.Entails.trans ?_ (le_wp_ret _ _ _ a K)
    iintro ⟨H, Hk⟩
    iapply Hk $$ %a %h %hp
    iexact H
  | op e k ih =>
    cases e
    case load m r hl =>
      obtain ⟨hm, hr⟩ := hp
      rw [pts_take c S h _ hm]
      iintro ⟨⟨H, Hr⟩, Hk⟩
      iapply (wp_load (defs := defs) 𝒱 (c : Thread nD τ) bd (Γ := Γ) E (m := m) (r := r) (hl := hl) (S := Finset.univ)
        (Finset.subset_univ _)) $$ H
      iintro H
      iapply (ih _ h hr)
      rw [pts_take c S h _ hm]
      isplitl [H Hr]
      · isplitl [H]
        · iexact H
        iexact Hr
      iexact Hk
    case store m r w Mk hx hm' =>
      obtain ⟨hm, hr⟩ := hp
      rw [pts_take c S h _ hm]
      iintro ⟨⟨H, Hr⟩, Hk⟩
      iapply (wp_store (defs := defs) 𝒱 (c : Thread nD τ) bd (Γ := Γ) E (m := m) (r := r) (w := w) (Mk := Mk) (hx := hx) (hm := hm') (S := Finset.univ)
        (Finset.subset_univ _)) $$ H
      iintro H
      iapply (ih _ _ hr)
      rw [pts_update c S h _ hm]
      isplitl [H Hr]
      · isplitl [H]
        · iexact H
        iexact Hr
      iexact Hk
    all_goals exact hp.elim

end Wp

end Nms

end
-- ==== Proof.Held.lean ====
/-
  Buffers held at contents that are not named, and the passage from a set of such buffers to a family of contents.
-/
module

public import proofs.«01_k».proof.Proof.Runs

@[expose] public section

noncomputable section

namespace Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}
variable {Ix : Type} [DecidableEq Ix] {Name : Type} [DecidableEq Name] {U : Type} [URA U] {Lvl : Type} [Preorder Lvl]
local notation "𝕄" => MT nD τ sig Ix Val Name U Lvl

/-- The buffers of `S`, each whole at some contents. -/
def held (c : Dev nD) (S : Finset (Ref sig .tc)) : sProp 𝕄 :=
  bigSep S fun b => iprop(∃ f : Buf Val ((c : Thread nD τ).loc b), ((c : Thread nD τ).loc b) ↦{fullShare} f)

/-- Contents of the buffers of `S` are a family of contents. -/
theorem held_pts (c : Dev nD) (h0 : Heap sig Val) (S : Finset (Ref sig .tc)) :
    (held c S : sProp 𝕄) ⊢ ∃ h : Heap sig Val, pts c S h := by
  induction S using Finset.induction_on with
  | empty =>
    iintro H
    iexists h0
    unfold held pts
    iexact H
  | insert b S hb ih =>
    refine BIBase.Entails.trans (Q := iprop((∃ f : Buf Val ((c : Thread nD τ).loc b), ((c : Thread nD τ).loc b) ↦{fullShare} f) ∗ held c S))
      (by unfold held; rw [bigSep_insert hb]; exact .rfl) ?_
    iintro ⟨⟨%f, Hf⟩, H⟩
    ihave H' := ih $$ H
    icases H' with ⟨%h, H'⟩
    iexists (Function.update h b f)
    rw [pts_update c (insert b S) h b (Finset.mem_insert_self _ _), Finset.erase_insert hb]
    unfold pts
    isplitl [Hf]
    · iexact Hf
    iexact H'

/-- A family of contents forgotten. -/
theorem pts_held (c : Dev nD) (S : Finset (Ref sig .tc)) (h : Heap sig Val) : (pts c S h : sProp 𝕄) ⊢ held c S := by
  unfold pts held
  refine bigSep_mono fun b _ => (show ((((c : Thread nD τ).loc b) ↦{fullShare} h b) : sProp 𝕄)
    ⊢ iprop(∃ f : Buf Val ((c : Thread nD τ).loc b), ((c : Thread nD τ).loc b) ↦{fullShare} f) from ?_)
  iintro H
  iexists _
  iexact H

/-- One buffer more. -/
theorem pts_insert (c : Dev nD) (S : Finset (Ref sig .tc)) (h : Heap sig Val) (b : Ref sig .tc) (hb : b ∉ S)
    (f : b.ty.Contents Val) :
    (pts c (insert b S) (Function.update h b f) : sProp 𝕄)
      = iprop((((c : Thread nD τ).loc b) ↦{fullShare} f) ∗ pts c S h) := by
  rw [pts_update c (insert b S) h b (Finset.mem_insert_self _ _), Finset.erase_insert hb]
  rfl

/-- One buffer less. -/
theorem pts_split (c : Dev nD) (S : Finset (Ref sig .tc)) (h : Heap sig Val) (b : Ref sig .tc) (hb : b ∉ S) :
    (pts c (insert b S) h : sProp 𝕄)
      = iprop((((c : Thread nD τ).loc b) ↦{fullShare} h b) ∗ pts c S h) := by
  rw [pts_take c (insert b S) h b (Finset.mem_insert_self _ _), Finset.erase_insert hb]
  rfl

/-- A whole memref owned is its buffer at contents that read as stated. -/
theorem owns_take (c : Dev nD) {sp : Space} {sh : Shape} {e : EltTy} (m : Memref sig .tc sp sh e) (hm : m.IsWhole) (X : sh.Idx → Val e) :
    (owns (c : Thread nD τ) m fullShare X : sProp 𝕄)
      ⊢ ∃ f : m.view.ref.ty.Contents Val, ⌜m.view.read Val f = X⌝ ∗ (((c : Thread nD τ).loc m.view.ref) ↦{fullShare} f) := by
  unfold owns
  rw [hm.set_eq_univ]

/-- And back. -/
theorem owns_give (c : Dev nD) {sp : Space} {sh : Shape} {e : EltTy} (m : Memref sig .tc sp sh e) (hm : m.IsWhole)
    (f : m.view.ref.ty.Contents Val) (X : sh.Idx → Val e) (hX : m.view.read Val f = X) :
    ((((c : Thread nD τ).loc m.view.ref) ↦{fullShare} f) : sProp 𝕄) ⊢ owns (c : Thread nD τ) m fullShare X := by
  unfold owns
  rw [hm.set_eq_univ]
  iintro H
  iexists f
  isplitr
  · ipureintro
    exact hX
  iexact H

end Nms

end
-- ==== Proof.KernelIdealSafe.lean ====
/-
  The kernel body loads and stores its operands only.
-/
module

public import proofs.«01_k».proof.Proof.Gen.KernelIdeal
public import proofs.«01_k».proof.Proof.Runs

@[expose] public section

set_option maxRecDepth 65536

noncomputable section

namespace Cert.KernelIdeal.Own

open Cert.KernelIdeal Cert.KernelIdeal.Gen Idealize.ShloMosaic Idealize.SL.Sem Nms

variable {F : FTy → Type} [FloatOps F] {S : Finset (Ref sig .tc)}

variable (i : grid0.Coords) (arg1 : Memref sig .tc .vmem S1x24x5120 .f32) (harg1 : arg1.IsWhole) (arg2 : Memref sig .tc .vmem S1x8x5120 .f32) (harg2 : arg2.IsWhole) (arg3 : Memref sig .tc .vmem S1x300x4 .f32) (harg3 : arg3.IsWhole) (arg4 : Memref sig .tc .vmem S1x1x300 .f32) (harg4 : arg4.IsWhole) (arg5 : Memref sig .tc .vmem S1x1x300 .i32) (harg5 : arg5.IsWhole) (arg6 : Memref sig .tc .vmem S24x5120 .f32) (harg6 : arg6.IsWhole) (arg7 : Memref sig .tc .vmem S24x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x512 .f32) (harg10 : arg10.IsWhole) (arg11 : Memref sig .tc .vmem S24x512 .f32) (harg11 : arg11.IsWhole) (arg12 : Memref sig .tc .vmem S24x512 .i32) (harg12 : arg12.IsWhole) (arg13 : Memref sig .tc .vmem S8x512 .f32) (harg13 : arg13.IsWhole) (arg14 : Memref sig .tc .vmem S8x512 .i32) (harg14 : arg14.IsWhole) (arg15 : Memref sig .tc .vmem S512x8 .f32) (harg15 : arg15.IsWhole)
  (marg1 : arg1.view.ref ∈ S) (marg2 : arg2.view.ref ∈ S) (marg3 : arg3.view.ref ∈ S) (marg4 : arg4.view.ref ∈ S) (marg5 : arg5.view.ref ∈ S) (marg6 : arg6.view.ref ∈ S) (marg7 : arg7.view.ref ∈ S) (marg8 : arg8.view.ref ∈ S) (marg9 : arg9.view.ref ∈ S) (marg10 : arg10.view.ref ∈ S) (marg11 : arg11.view.ref ∈ S) (marg12 : arg12.view.ref ∈ S) (marg13 : arg13.view.ref ∈ S) (marg14 : arg14.view.ref ∈ S) (marg15 : arg15.view.ref ∈ S)

include marg1 marg2 marg3 marg4 marg5 marg6 marg7 marg8 marg9 marg10 marg11 marg12 marg13 marg14 marg15

set_option maxHeartbeats 4000000 in
/-- Its statements touch the operands only. -/
theorem safe_k0_part1 (v1 v3 v5 v7 v44 c0_i32 c1_i32 k0_t1) : Safe S (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v44 c0_i32 c1_i32 k0_t1) := by
  unfold k0_part1
  repeat' first
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- Its statements touch the operands only. -/
theorem safe_k0_part2 (v7 v14 v45 arg16 v70 v72 v80 v82 v88 v94 v100 v106 v109 v112 v113 v114) : Safe S (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v7 v14 v45 arg16 v70 v72 v80 v82 v88 v94 v100 v106 v109 v112 v113 v114) := by
  unfold k0_part2
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- Its statements touch the operands only. -/
theorem safe_k0_part3 (v80 v88 v94 v100 v106 v151 v157 v158) : Safe S (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v80 v88 v94 v100 v106 v151 v157 v158) := by
  unfold k0_part3
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _ _ _ _ _ _ _ _ _
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- Its statements touch the operands only. -/
theorem safe_k0_part4 (c0_i32_34 c1_i32_36 k0_t2) : Safe S (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_34 c1_i32_36 k0_t2) := by
  unfold k0_part4
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _ _ _ _ _ _ _ _ _
    | with_reducible exact safe_k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- Its statements touch the operands only. -/
theorem safe_k0_part5 (v45 arg16 v79 v89 v108) : Safe S (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v45 arg16 v79 v89 v108) := by
  unfold k0_part5
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _ _ _ _ _ _ _ _ _
    | with_reducible exact safe_k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- Its statements touch the operands only. -/
theorem safe_k0_part6 : Safe S (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 ) := by
  unfold k0_part6
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _ _ _ _ _ _ _ _ _
    | with_reducible exact safe_k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _
    | with_reducible exact safe_k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- Its statements touch the operands only. -/
theorem safe_k0_part7 (v1 v3 v5 v7 v14 v28 v29) : Safe S (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v14 v28 v29) := by
  unfold k0_part7
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _ _ _ _ _ _ _ _ _
    | with_reducible exact safe_k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _
    | with_reducible exact safe_k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _
    | with_reducible exact safe_k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

set_option maxHeartbeats 4000000 in
/-- The whole body touches the operands only. -/
theorem safe_cc0__fd_kernel : Safe S (cc0__fd_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 ) := by
  unfold cc0__fd_kernel
  repeat' first
    | with_reducible exact safe_k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _ _ _ _ _ _ _ _ _
    | with_reducible exact safe_k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _ _
    | with_reducible exact safe_k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _
    | with_reducible exact safe_k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _
    | with_reducible exact safe_k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15
    | with_reducible exact safe_k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 _ _ _ _ _ _ _
    | with_reducible refine safe_bind ?_ (fun _ => ?_)
    | with_reducible exact safe_load _ _ _ (by assumption)
    | with_reducible exact safe_store _ _ _ _ _ _ (by assumption)
    | with_reducible exact safe_pure _
    | with_reducible refine safe_for _ _ _ _ _ _ (fun _ _ => ?_)
    | refine safe_bind ?_ (fun _ => ?_)
    | exact safe_pure _
    | with_reducible refine safe_ite ?_ ?_
    | split

end Cert.KernelIdeal.Own
end
-- ==== Proof.KernelIdealFrame.lean ====
/-
  The run of the program from any launch memory: it terminates, and every buffer that neither the grid call nor the
  lines after it write ends as the lines before the call left it.
-/
module

public import proofs.«01_k».proof.Proof.KernelIdealSafe
public import proofs.«01_k».proof.Proof.Held
public import proofs.«01_k».proof.Proof.Gen.KernelIdeal.Frame

@[expose] public section

set_option maxRecDepth 16384

noncomputable section

namespace Cert.KernelIdeal.Own

open Cert.KernelIdeal Cert.KernelIdeal.Gen Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers. -/
def scr : Finset (Ref sig .tc) :=
  (Finset.univ.filter fun b : Ref sig .tc => b.isScoped) \ Finset.univ.image (Pipeline.stageRef spec0)

/-- The buffers the body is given at a point: the scratch buffers and the five staging buffers. -/
def bufs (t : Fin cfg0.N) : Finset (Ref sig .tc) :=
  insert (st0_0 t).view.ref (insert (st0_1 t).view.ref (insert (st0_2 t).view.ref (insert (st0_3 t).view.ref (insert (st0_4 t).view.ref scr))))

theorem mem_scr {b : Ref sig .tc} (h : b ∈ scr) (t : Fin cfg0.N) : b ∈ bufs t := by
  unfold bufs; simp only [Finset.mem_insert]; exact .inr (.inr (.inr (.inr (.inr h))))

theorem stage_not_scr (w : Fin 5) (s : Fin (spec0 w).nbuf) : Pipeline.stageRef spec0 ⟨w, s⟩ ∉ scr := fun h =>
  (Finset.mem_sdiff.mp h).2 (Finset.mem_image_of_mem _ (Finset.mem_univ _))

theorem n4 (t : Fin cfg0.N) : (st0_4 t).view.ref ∉ scr := stage_not_scr 4 (cfg0.slots t 4)

theorem stage_ne {w w' : Fin 5} (h : w ≠ w') (s : Fin (spec0 w).nbuf) (s' : Fin (spec0 w').nbuf) :
    Pipeline.stageRef spec0 ⟨w, s⟩ ≠ Pipeline.stageRef spec0 ⟨w', s'⟩ := fun e =>
  h (congrArg Sigma.fst (winFacts0.stage_inj e))

theorem n3 (t : Fin cfg0.N) : (st0_3 t).view.ref ∉ insert (st0_4 t).view.ref scr := by
  simp only [Finset.mem_insert, not_or]
  exact ⟨stage_ne (w := 3) (w' := 4) (by decide) _ _, stage_not_scr 3 (cfg0.slots t 3)⟩
theorem n2 (t : Fin cfg0.N) : (st0_2 t).view.ref ∉ insert (st0_3 t).view.ref (insert (st0_4 t).view.ref scr) := by
  simp only [Finset.mem_insert, not_or]
  exact ⟨stage_ne (w := 2) (w' := 3) (by decide) _ _, stage_ne (w := 2) (w' := 4) (by decide) _ _, stage_not_scr 2 (cfg0.slots t 2)⟩
theorem n1 (t : Fin cfg0.N) : (st0_1 t).view.ref ∉ insert (st0_2 t).view.ref (insert (st0_3 t).view.ref (insert (st0_4 t).view.ref scr)) := by
  simp only [Finset.mem_insert, not_or]
  exact ⟨stage_ne (w := 1) (w' := 2) (by decide) _ _, stage_ne (w := 1) (w' := 3) (by decide) _ _, stage_ne (w := 1) (w' := 4) (by decide) _ _,
    stage_not_scr 1 (cfg0.slots t 1)⟩
theorem n0 (t : Fin cfg0.N) : (st0_0 t).view.ref ∉ insert (st0_1 t).view.ref (insert (st0_2 t).view.ref (insert (st0_3 t).view.ref (insert (st0_4 t).view.ref scr))) := by
  simp only [Finset.mem_insert, not_or]
  exact ⟨stage_ne (w := 0) (w' := 1) (by decide) _ _, stage_ne (w := 0) (w' := 2) (by decide) _ _, stage_ne (w := 0) (w' := 3) (by decide) _ _,
    stage_ne (w := 0) (w' := 4) (by decide) _ _, stage_not_scr 0 (cfg0.slots t 0)⟩

theorem w0 (t : Fin cfg0.N) : (st0_0 t).IsWhole := hstage0_0 ((cfg0.slots t 0).cast nbuf0_0)
theorem w1 (t : Fin cfg0.N) : (st0_1 t).IsWhole := hstage0_1 ((cfg0.slots t 1).cast nbuf0_1)
theorem w2 (t : Fin cfg0.N) : (st0_2 t).IsWhole := hstage0_2 ((cfg0.slots t 2).cast nbuf0_2)
theorem w3 (t : Fin cfg0.N) : (st0_3 t).IsWhole := hstage0_3 ((cfg0.slots t 3).cast nbuf0_3)
theorem w4 (t : Fin cfg0.N) : (st0_4 t).IsWhole := hstage0_4 ((cfg0.slots t 4).cast nbuf0_4)

theorem s0 : cc0_scratch0 ∈ scr := by unfold scr; decide
theorem s1 : cc0_scratch1 ∈ scr := by unfold scr; decide
theorem s2 : cc0_scratch2 ∈ scr := by unfold scr; decide
theorem s3 : cc0_scratch3 ∈ scr := by unfold scr; decide
theorem s4 : cc0_scratch4 ∈ scr := by unfold scr; decide
theorem s5 : cc0_scratch5 ∈ scr := by unfold scr; decide
theorem s6 : cc0_scratch6 ∈ scr := by unfold scr; decide
theorem s7 : cc0_scratch7 ∈ scr := by unfold scr; decide
theorem s8 : cc0_scratch8 ∈ scr := by unfold scr; decide
theorem s9 : cc0_scratch9 ∈ scr := by unfold scr; decide

/-- The body at a point touches only its buffers. -/
theorem safe_body (t : Fin cfg0.N) : Safe (bufs t) (bodyAt0 (F := F) t) :=
  safe_cc0__fd_kernel _ _ _ _ _ _ _ _ _ _ _ _ _ _ _ _ _ _ _ _ _ _ _ _ _ _ _ _ _ _ _
    (by unfold bufs; simp) (by unfold bufs; simp) (by unfold bufs; simp) (by unfold bufs; simp) (by unfold bufs; simp)
    (mem_scr s0 t) (mem_scr s1 t) (mem_scr s2 t) (mem_scr s3 t) (mem_scr s4 t) (mem_scr s5 t) (mem_scr s6 t) (mem_scr s7 t) (mem_scr s8 t) (mem_scr s9 t)

/-- The buffers of a point one by one. -/
theorem pts_bufs (c : Dev nD) (t : Fin cfg0.N) (h : Heap sig (Elt F)) : (pts c (bufs t) h : sProp 𝕄) ⊢
    iprop((((c : Thread nD τ).loc (st0_0 t).view.ref) ↦{fullShare} h (st0_0 t).view.ref)
      ∗ (((c : Thread nD τ).loc (st0_1 t).view.ref) ↦{fullShare} h (st0_1 t).view.ref)
      ∗ (((c : Thread nD τ).loc (st0_2 t).view.ref) ↦{fullShare} h (st0_2 t).view.ref)
      ∗ (((c : Thread nD τ).loc (st0_3 t).view.ref) ↦{fullShare} h (st0_3 t).view.ref)
      ∗ (((c : Thread nD τ).loc (st0_4 t).view.ref) ↦{fullShare} h (st0_4 t).view.ref) ∗ pts c scr h) := by
  unfold bufs
  rw [pts_split c _ _ _ (n0 t), pts_split c _ _ _ (n1 t), pts_split c _ _ _ (n2 t), pts_split c _ _ _ (n3 t), pts_split c _ _ _ (n4 t)]

/-- Contents of the point's buffers out of contents of each. -/
def heap5 (t : Fin cfg0.N) (h : Heap sig (Elt F)) (f0 : (st0_0 t).view.ref.ty.Contents (Elt F)) (f1 : (st0_1 t).view.ref.ty.Contents (Elt F))
    (f2 : (st0_2 t).view.ref.ty.Contents (Elt F)) (f3 : (st0_3 t).view.ref.ty.Contents (Elt F)) (f4 : (st0_4 t).view.ref.ty.Contents (Elt F)) :
    Heap sig (Elt F) :=
  Function.update (Function.update (Function.update (Function.update (Function.update h (st0_4 t).view.ref f4) (st0_3 t).view.ref f3) (st0_2 t).view.ref f2)
    (st0_1 t).view.ref f1) (st0_0 t).view.ref f0

theorem pts_bufs_mk (c : Dev nD) (t : Fin cfg0.N) (h : Heap sig (Elt F)) (f0 : (st0_0 t).view.ref.ty.Contents (Elt F)) (f1 : (st0_1 t).view.ref.ty.Contents (Elt F))
    (f2 : (st0_2 t).view.ref.ty.Contents (Elt F)) (f3 : (st0_3 t).view.ref.ty.Contents (Elt F)) (f4 : (st0_4 t).view.ref.ty.Contents (Elt F)) :
    (pts c (bufs t) (heap5 t h f0 f1 f2 f3 f4) : sProp 𝕄) =
    iprop((((c : Thread nD τ).loc (st0_0 t).view.ref) ↦{fullShare} f0)
      ∗ (((c : Thread nD τ).loc (st0_1 t).view.ref) ↦{fullShare} f1)
      ∗ (((c : Thread nD τ).loc (st0_2 t).view.ref) ↦{fullShare} f2)
      ∗ (((c : Thread nD τ).loc (st0_3 t).view.ref) ↦{fullShare} f3)
      ∗ (((c : Thread nD τ).loc (st0_4 t).view.ref) ↦{fullShare} f4) ∗ pts c scr h) := by
  unfold bufs heap5
  rw [pts_insert c _ _ _ (n0 t), pts_insert c _ _ _ (n1 t), pts_insert c _ _ _ (n2 t), pts_insert c _ _ _ (n3 t), pts_insert c _ _ _ (n4 t)]

/-- The proof data: the arrays as the call finds them; nothing is said of what the staging buffers hold. -/
def dats : (p : Fin 1) → (c : Dev nD) → Dat τ (Elt F) Unit ℕ (UR sig nD τ) ℕ (cfgs p) c := fun _ c => {
  A w := V m c (Pipeline.arrRef spec0 w)
  after w t := match w with | 0 => iblk m c 0 t | 1 => iblk m c 1 t | 2 => iblk m c 2 t | 3 => iblk m c 3 t | 4 => iblk m c 4 t
  Φ _ := Pipeline.ΦA spec0 c
  q _ := fullShare
  owed _ := 0 }

theorem defs₀_row (t : Fin cfg0.N) :
    defs₀ (F := F) .tc cfg0.body (cfg0.bodyArgs t (cfg0.slots t)) = bodyAt0 t := by
  unfold defs₀; rw [Defs.onTc_tc]

theorem bodyPt (c : Dev nD) (t : Fin cfg0.N) :
    iprop(Pipeline.ΦA spec0 c ∗ (dats m 0 c).owesAt () t.castSucc
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X)
        ∗ (∃ X, owns (c : Thread nD τ) (st0_4 t) fullShare X))
      ⊢ wp frame (wpE (defs₀ (F := F)) Variants.none c none) Set.univ (bodyAt0 t) (fun _ =>
        (iprop(Pipeline.ΦA spec0 c ∗ (dats m 0 c).owesAt () t.succ
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X)
        ∗ (∃ X, owns (c : Thread nD τ) (st0_4 t) fullShare X)) : sProp 𝕄)) := by
  unfold Pipeline.ΦA
  rw [show (dats m 0 c).owesAt () t.succ = (dats m 0 c).owesAt () t.castSucc from rfl]
  iintro ⟨⟨Hs, Hg⟩, HW, ⟨%X0, H0⟩, ⟨%X1, H1⟩, ⟨%X2, H2⟩, ⟨%X3, H3⟩, ⟨%X4, H4⟩⟩
  ihave Hp := (show (Pipeline.scopedRest spec0 c : sProp 𝕄) ⊢ ∃ h : Heap sig (Elt F), pts c scr h from held_pts c (fun b => V m c b) scr) $$ Hs
  icases Hp with ⟨%h, Hp⟩
  ihave H0 := (owns_take c (st0_0 t) (w0 t) X0) $$ H0
  icases H0 with ⟨%f0, -, H0⟩
  ihave H1 := (owns_take c (st0_1 t) (w1 t) X1) $$ H1
  icases H1 with ⟨%f1, -, H1⟩
  ihave H2 := (owns_take c (st0_2 t) (w2 t) X2) $$ H2
  icases H2 with ⟨%f2, -, H2⟩
  ihave H3 := (owns_take c (st0_3 t) (w3 t) X3) $$ H3
  icases H3 with ⟨%f3, -, H3⟩
  ihave H4 := (owns_take c (st0_4 t) (w4 t) X4) $$ H4
  icases H4 with ⟨%f4, -, H4⟩
  iapply (wp_of_runs (defs := defs₀ (F := F)) Variants.none c none Set.univ (bodyAt0 t) _ _ ((safe_body t).runs
    (heap5 t h f0 f1 f2 f3 f4)) _)
  rw [pts_bufs_mk]
  isplitl [Hp H0 H1 H2 H3 H4]
  · isplitl [H0]; · iexact H0
    isplitl [H1]; · iexact H1
    isplitl [H2]; · iexact H2
    isplitl [H3]; · iexact H3
    isplitl [H4]; · iexact H4
    iexact Hp
  iintro %a %h' - Hp
  ihave Hp := (pts_bufs c t h') $$ Hp
  icases Hp with ⟨H0, H1, H2, H3, H4, Hp⟩
  isplitl [Hp Hg]
  · isplitl [Hp]
    · iapply (show (pts c scr h' : sProp 𝕄) ⊢ Pipeline.scopedRest spec0 c from pts_held c scr h') $$ Hp
    iexact Hg
  isplitl [HW]; · iexact HW
  isplitl [H0]
  · iexists _; iapply (owns_give c (st0_0 t) (w0 t) _ _ rfl) $$ H0
  isplitl [H1]
  · iexists _; iapply (owns_give c (st0_1 t) (w1 t) _ _ rfl) $$ H1
  isplitl [H2]
  · iexists _; iapply (owns_give c (st0_2 t) (w2 t) _ _ rfl) $$ H2
  isplitl [H3]
  · iexists _; iapply (owns_give c (st0_3 t) (w3 t) _ _ rfl) $$ H3
  iexists _; iapply (owns_give c (st0_4 t) (w4 t) _ _ rfl) $$ H4

/-- What the body owes the pipeline when nothing is said of the staging buffers. -/
theorem body_obligation (c : Dev nD) :
    BodyObligationLoose (dats (F := F) m 0 c) (defs₀ (F := F)) Variants.none () Set.univ (fun _ => true) := fun t => by
  rw [bigSep_W0]
  exact triple_restated (bodyPt m c t) (congrArg (wp frame (wpE (defs₀ (F := F)) Variants.none c none) Set.univ) (defs₀_row t).symm) .rfl fun _ => .rfl

/-- The lines after the call write the two reshaped results. -/
theorem tail_writes : ∀ ops ∈ ([hostOps1] : List (List (HloOp τ sig (Elt F)))), ∀ op ∈ ops, ∀ b : Ref sig .tc,
    Proc.devRef .tc b ∈ op.writes → b ∈ ({main_v5, main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl
  all_goals
    rw [StableHlo.reshape_writes, Finset.mem_singleton] at hb
    have := Proc.devRef_injective _ hb
    subst this
    decide

set_option backward.isDefEq.respectTransparency.types false in
/-- The run: it terminates, the argument arrays end as launched, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget (Q' := _) cfgs (dats m) (0 : Fin 1) launch0 defs₀ Variants.none (fun _ => true) {main_v5, main_v6} m ρ main
    (hbody := fun c => body_obligation m c) (hshare := fun c => (dats m 0 c).share_full fun _ => rfl)
    (howed := fun _ _ => rfl) (V0 m) [hostOps1] sfx_sub sfx_fresh sfx_keeps tail_writes (hmain m Variants.none) (fun _ _ => rfl) (fun _ _ => rfl)
    (hQ' := fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩, h.2⟩)

end Cert.KernelIdeal.Own

end
-- ==== Proof.ReferenceRun.lean ====
/-
  What the reference's host lines leave where: the buffers the loop does not write are kept through it, the arguments
  are kept throughout, and the program's frame follows.
-/
module

public import proofs.«01_k».proof.Proof.Gen.ReferenceIdeal.Run
public import Idealize.ShloMosaic.Lib.Quiescent

@[expose] public section

set_option maxRecDepth 20000

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI Idealize.SL.Sem

variable {F : FTy → Type} [FloatOps F]

/-- What one trip writes. -/
abbrev tripW : List (Ref sig .tc) :=
  condOps_W ++ while0Ops0_W ++ while0Ops0_1_W ++ while0Ops0_2_W ++ while0Ops0_3_W ++ while0Ops0_4_W ++ while0Ops0_5_W ++ while0Ops0_6_W
    ++ while0Ops0_7_W ++ while0Ops0_8_W ++ while0Ops0_9_W ++ while0Ops0_10_W ++ while0Ops0_11_W ++ while0Ops0_12_W

/-- A buffer no trip writes is kept by a trip. -/
theorem trip_keep (r : Ref sig .tc) (h : r ∉ tripW) (V : Valuation τ sig (Elt F)) :
    afterL bodyI (after condOps V) (Proc.devRef .tc r) = V (Proc.devRef .tc r) := by
  simp only [List.mem_append, not_or] at h
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := h
  simp only [afterL_cons, afterL_nil]
  rw [after_of_writes_sub while0Ops0_12 _ while0Ops0_12_writes h13, after_of_writes_sub while0Ops0_11 _ while0Ops0_11_writes h12,
    after_of_writes_sub while0Ops0_10 _ while0Ops0_10_writes h11, after_of_writes_sub while0Ops0_9 _ while0Ops0_9_writes h10,
    after_of_writes_sub while0Ops0_8 _ while0Ops0_8_writes h9, after_of_writes_sub while0Ops0_7 _ while0Ops0_7_writes h8,
    after_of_writes_sub while0Ops0_6 _ while0Ops0_6_writes h7, after_of_writes_sub while0Ops0_5 _ while0Ops0_5_writes h6,
    after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

variable (m : (ℓ : Loc nD τ sig) → Buf (Elt F) ℓ) (c : Dev nD)

/-- The contents before the stretches after the loop. -/
def exitV : Valuation τ sig (Elt F) := after condOps (atK m 300 c)

theorem finalContents_eq : finalContents condOps preI bodyI postI 300 m c = afterL postI (exitV m c) := rfl

/-- A buffer no trip writes is kept by the loop. -/
theorem loop_keep (r : Ref sig .tc) (h : r ∉ tripW) : exitV m c (Proc.devRef .tc r) = entryContents preI m c (Proc.devRef .tc r) := by
  have hk : ∀ k, atK m k c (Proc.devRef .tc r) = entryContents preI m c (Proc.devRef .tc r) := by
    intro k
    induction k with
    | zero => rfl
    | succ k ih => exact (trip_keep r h (atK m k c)).trans ih
  unfold exitV
  have h0 : r ∉ condOps_W := by
    simp only [List.mem_append, not_or] at h
    exact h.1.1.1.1.1.1.1.1.1.1.1.1.1
  rw [after_of_writes_sub condOps _ condOps_writes h0]
  exact hk 300

theorem entry_arg0 : entryContents preI m c (Proc.devRef .tc main_arg0) = launchContents m c (Proc.devRef .tc main_arg0) := by
  simp only [entryContents, afterL_cons, afterL_nil]
  after_reads_simp

theorem entry_arg1 : entryContents preI m c (Proc.devRef .tc main_arg1) = launchContents m c (Proc.devRef .tc main_arg1) := by
  simp only [entryContents, afterL_cons, afterL_nil]
  after_reads_simp

theorem post_arg0 (V : Valuation τ sig (Elt F)) : afterL postI V (Proc.devRef .tc main_arg0) = V (Proc.devRef .tc main_arg0) := by
  simp only [afterL_cons, afterL_nil]
  after_reads_simp

theorem post_arg1 (V : Valuation τ sig (Elt F)) : afterL postI V (Proc.devRef .tc main_arg1) = V (Proc.devRef .tc main_arg1) := by
  simp only [afterL_cons, afterL_nil]
  after_reads_simp

theorem final_arg0 : finalContents condOps preI bodyI postI 300 m c (Proc.devRef .tc main_arg0) = m ((c.tc : Thread nD τ).loc main_arg0) := by
  rw [finalContents_eq, post_arg0, loop_keep m c main_arg0 (by decide +kernel), entry_arg0]

theorem final_arg1 : finalContents condOps preI bodyI postI 300 m c (Proc.devRef .tc main_arg1) = m ((c.tc : Thread nD τ).loc main_arg1) := by
  rw [finalContents_eq, post_arg1, loop_keep m c main_arg1 (by decide +kernel), entry_arg1]

theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c =>
    ⟨(h c main_arg0 rfl).trans (final_arg0 m c), (h c main_arg1 rfl).trans (final_arg1 m c)⟩,
    sem_eq_zero_of_no_sems (by decide) _⟩) (run_fold m ρ)

end Cert.ReferenceIdeal.Own
-- ==== Proof.Spec.lean ====
/-
  Greedy suppression and the choice of the best detections as plain functions of natural numbers and extended reals.
  `nms` is one class of one image: the scores left after a number of rounds. `pick` and `taken` choose, one after
  another, the positions of a score list from the greatest score down, an earlier position first among equal scores.
  `pick_match` compares the choices over two lists of which one is a padded copy of the other.
-/
module

public import Idealize.ShloMosaic.Lib.Pointwise
public import Idealize.ShloMosaic.Lib.Tactic

@[expose] public section

noncomputable section

namespace Nms

open Idealize.ShloMosaic

/-! ## One class -/

/-- `i` is the first place of the greatest score. -/
def IsTop (s : ℕ → EReal) (i : ℕ) : Prop := (∀ j, s j ≤ s i) ∧ ∀ j, s j = s i → i ≤ j

theorem IsTop.unique {s : ℕ → EReal} {i j : ℕ} (hi : IsTop s i) (hj : IsTop s j) : i = j := by
  have e : s i = s j := le_antisymm (hj.1 i) (hi.1 j)
  exact le_antisymm (hi.2 j e.symm) (hj.2 i e)

/-- The first place of the greatest score (`0` when there is none). -/
def top (s : ℕ → EReal) : ℕ := by
  classical exact if h : ∃ i, IsTop s i then h.choose else 0

theorem IsTop.top_eq {s : ℕ → EReal} {i : ℕ} (hi : IsTop s i) : top s = i := by
  have h : ∃ i, IsTop s i := ⟨i, hi⟩
  unfold top
  rw [dif_pos h]
  exact h.choose_spec.unique hi

/-- The overlap threshold and the score threshold. -/
def half : EReal := Ideal.ofBits .f32 0x3F000000#32
def low : EReal := Ideal.ofBits .f32 0x3D4CCCCD#32

/-- The area of the box at `j`, the common area of two boxes, and their overlap. -/
def area (x : Fin 4 → ℕ → EReal) (j : ℕ) : EReal := max (x 2 j - x 0 j) 0 * max (x 3 j - x 1 j) 0

def inter (x : Fin 4 → ℕ → EReal) (i j : ℕ) : EReal :=
  max (min (x 2 i) (x 2 j) - max (x 0 i) (x 0 j)) 0 * max (min (x 3 i) (x 3 j) - max (x 1 i) (x 1 j)) 0

def iou (x : Fin 4 → ℕ → EReal) (i j : ℕ) : EReal :=
  if 0 < area x i + area x j - inter x i j then Ideal.div (inter x i j) (area x i + area x j - inter x i j) else 0

/-- The scores after one more round: the chosen place and every place that overlaps it too much are struck out. -/
def strike (x : Fin 4 → ℕ → EReal) (s : ℕ → EReal) (j : ℕ) : EReal :=
  if half < iou x (top s) j ∨ j = top s then ⊥ else s j

def nms (x : Fin 4 → ℕ → EReal) (s : ℕ → EReal) : ℕ → ℕ → EReal
  | 0 => s
  | t + 1 => strike x (nms x s t)

/-- The place chosen in round `t`, and its score. -/
def place (x : Fin 4 → ℕ → EReal) (s : ℕ → EReal) (t : ℕ) : ℕ := top (nms x s t)
def score (x : Fin 4 → ℕ → EReal) (s : ℕ → EReal) (t : ℕ) : EReal := nms x s t (place x s t)

/-- A score is either its first value or struck out. -/
theorem nms_or (x : Fin 4 → ℕ → EReal) (s : ℕ → EReal) (t j : ℕ) : nms x s t j = ⊥ ∨ nms x s t j = s j := by
  induction t with
  | zero => exact Or.inr rfl
  | succ t ih =>
    show strike x (nms x s t) j = ⊥ ∨ strike x (nms x s t) j = s j
    unfold strike
    split
    · exact Or.inl rfl
    · exact ih

theorem nms_bot {x : Fin 4 → ℕ → EReal} {s : ℕ → EReal} (t j : ℕ) (h : s j = ⊥) : nms x s t j = ⊥ := by
  rcases nms_or x s t j with e | e
  · exact e
  · exact e.trans h

/-! ## The best of a list -/

/-- Position `i` comes before position `j`: a greater score, or an equal score at an earlier position. -/
def Before (v : ℕ → EReal) (i j : ℕ) : Prop := v j < v i ∨ (v j = v i ∧ i < j)

theorem Before.asymm {v : ℕ → EReal} {i j : ℕ} (h : Before v i j) : ¬ Before v j i := by
  rintro (h' | ⟨e', h'⟩)
  · rcases h with h | ⟨e, h⟩
    · exact lt_asymm h h'
    · exact absurd h' (by rw [e]; exact lt_irrefl _)
  · rcases h with h | ⟨e, h⟩
    · exact absurd h (by rw [e']; exact lt_irrefl _)
    · omega

theorem Before.le {v : ℕ → EReal} {i j : ℕ} (h : Before v i j) : v j ≤ v i := by
  rcases h with h | ⟨e, _⟩
  · exact h.le
  · exact e.le

/-- `p` is the best position below `n` outside `C`. -/
def IsPick (v : ℕ → EReal) (n : ℕ) (C : Finset ℕ) (p : ℕ) : Prop :=
  p < n ∧ p ∉ C ∧ ∀ q < n, q ∉ C → q ≠ p → Before v p q

theorem IsPick.unique {v : ℕ → EReal} {n : ℕ} {C : Finset ℕ} {p q : ℕ} (hp : IsPick v n C p) (hq : IsPick v n C q) :
    p = q := by
  by_contra h
  exact (hp.2.2 q hq.1 hq.2.1 (Ne.symm h)).asymm (hq.2.2 p hp.1 hp.2.1 h)

theorem exists_isPick (v : ℕ → EReal) (n : ℕ) (C : Finset ℕ) (h : C.card < n) : ∃ p, IsPick v n C p := by
  classical
  have hne : (Finset.range n \ C).Nonempty := by
    rw [← Finset.card_pos]
    have := Finset.le_card_sdiff C (Finset.range n)
    rw [Finset.card_range] at this
    omega
  obtain ⟨a, ha, hmax⟩ := Finset.exists_max_image (Finset.range n \ C) v hne
  have hne' : ((Finset.range n \ C).filter fun q => v q = v a).Nonempty := ⟨a, Finset.mem_filter.mpr ⟨ha, rfl⟩⟩
  obtain ⟨p, hp, hmin⟩ := Finset.exists_min_image _ (fun q : ℕ => q) hne'
  rw [Finset.mem_filter, Finset.mem_sdiff, Finset.mem_range] at hp
  refine ⟨p, hp.1.1, hp.1.2, fun q hq hqC hqp => ?_⟩
  have hq' : q ∈ Finset.range n \ C := Finset.mem_sdiff.mpr ⟨Finset.mem_range.mpr hq, hqC⟩
  rcases lt_or_eq_of_le (hmax q hq') with hlt | heq
  · exact Or.inl (by rw [hp.2]; exact hlt)
  · refine Or.inr ⟨by rw [hp.2]; exact heq, ?_⟩
    have := hmin q (Finset.mem_filter.mpr ⟨hq', heq⟩)
    omega

/-- The best position below `n` outside `C`. -/
def pickOf (v : ℕ → EReal) (n : ℕ) (C : Finset ℕ) : ℕ := by
  classical exact if h : ∃ p, IsPick v n C p then h.choose else 0

theorem IsPick.eq_pickOf {v : ℕ → EReal} {n : ℕ} {C : Finset ℕ} {p : ℕ} (hp : IsPick v n C p) : p = pickOf v n C := by
  have h : ∃ p, IsPick v n C p := ⟨p, hp⟩
  unfold pickOf
  rw [dif_pos h]
  exact hp.unique h.choose_spec

theorem isPick_pickOf {v : ℕ → EReal} {n : ℕ} {C : Finset ℕ} (h : C.card < n) : IsPick v n C (pickOf v n C) := by
  obtain ⟨p, hp⟩ := exists_isPick v n C h
  rw [← hp.eq_pickOf]
  exact hp

/-- The positions chosen in the first `t` rounds. -/
def taken (v : ℕ → EReal) (n : ℕ) : ℕ → Finset ℕ
  | 0 => ∅
  | t + 1 => insert (pickOf v n (taken v n t)) (taken v n t)

/-- The position chosen in round `t`. -/
def pick (v : ℕ → EReal) (n t : ℕ) : ℕ := pickOf v n (taken v n t)

theorem card_taken_le (v : ℕ → EReal) (n t : ℕ) : (taken v n t).card ≤ t := by
  induction t with
  | zero => exact le_of_eq rfl
  | succ t ih => exact (Finset.card_insert_le _ _).trans (Nat.add_le_add_right ih 1)

theorem mem_taken {v : ℕ → EReal} {n t q : ℕ} : q ∈ taken v n t ↔ ∃ a < t, q = pick v n a := by
  induction t with
  | zero =>
    constructor
    · intro h; exact absurd h (Finset.notMem_empty q)
    · rintro ⟨a, ha, _⟩; omega
  | succ t ih =>
    show q ∈ insert (pick v n t) (taken v n t) ↔ _
    rw [Finset.mem_insert, ih]
    constructor
    · rintro (h | ⟨a, ha, h⟩)
      · exact ⟨t, by omega, h⟩
      · exact ⟨a, by omega, h⟩
    · rintro ⟨a, ha, h⟩
      by_cases hat : a = t
      · exact Or.inl (hat ▸ h)
      · exact Or.inr ⟨a, by omega, h⟩

theorem isPick_pick (v : ℕ → EReal) {n t : ℕ} (h : t < n) : IsPick v n (taken v n t) (pick v n t) :=
  isPick_pickOf (lt_of_le_of_lt (card_taken_le v n t) h)

/-- A list in the stated order, without repetition and with nothing left out before it, is the list of choices. -/
theorem pick_of_sorted {v : ℕ → EReal} {n T : ℕ} (σ : ℕ → ℕ) (hn : ∀ t < T, σ t < n)
    (hinj : ∀ a < T, ∀ b < T, a < b → σ a ≠ σ b)
    (hσ : ∀ t < T, ∀ q < n, (∀ a ≤ t, q ≠ σ a) → Before v (σ t) q) : ∀ t < T, pick v n t = σ t := by
  intro t
  induction t using Nat.strong_induction_on with
  | _ t ih =>
    intro ht
    have hp : IsPick v n (taken v n t) (σ t) := by
      refine ⟨hn t ht, ?_, ?_⟩
      · rw [mem_taken]
        rintro ⟨a, ha, e⟩
        rw [ih a ha (by omega)] at e
        exact hinj a (by omega) t ht ha e.symm
      · intro q hq hqt hne
        refine hσ t ht q hq fun a ha e => ?_
        by_cases hat : a = t
        · exact hne (hat ▸ e)
        · exact hqt (mem_taken.mpr ⟨a, by omega, by rw [ih a (by omega) (by omega)]; exact e⟩)
    exact hp.eq_pickOf.symm

/-- The choices over a padded copy of a list: `f` places the list `u` inside the list `v` in order, and `v` holds
    nothing elsewhere. Then equal scores are chosen round by round, and at the same entries while there are scores. -/
theorem pick_match {u v : ℕ → EReal} {n m : ℕ} (f : ℕ → ℕ) (hf : ∀ q < n, f q < m) (hmono : ∀ q < n, ∀ q' < n, q < q' → f q < f q')
    (hval : ∀ q < n, v (f q) = u q) (hout : ∀ p < m, (∀ q < n, p ≠ f q) → v p = ⊥) :
    ∀ t < n, t < m → v (pick v m t) = u (pick u n t) ∧ (u (pick u n t) ≠ ⊥ → pick v m t = f (pick u n t)) := by
  have hinj : ∀ q < n, ∀ q' < n, f q = f q' → q = q' := by
    intro q hq q' hq' e
    rcases lt_trichotomy q q' with h | h | h
    · exact absurd e (hmono q hq q' hq' h).ne
    · exact h
    · exact absurd e (hmono q' hq' q hq h).ne'
  have hbef : ∀ q < n, ∀ q' < n, Before u q q' → Before v (f q) (f q') := by
    intro q hq q' hq' h
    unfold Before
    rw [hval q hq, hval q' hq']
    rcases h with h | ⟨e, h⟩
    · exact Or.inl h
    · exact Or.inr ⟨e, hmono q hq q' hq' h⟩
  intro t
  induction t using Nat.strong_induction_on with
  | _ t ih =>
    intro htn htm
    have hu := isPick_pick u htn
    have hv := isPick_pick v htm
    -- an entry with a score, not yet chosen on one side, is not yet chosen on the other
    have h1 : ∀ q < n, u q ≠ ⊥ → f q ∈ taken v m t → q ∈ taken u n t := by
      intro q hq hs h
      obtain ⟨a, ha, e⟩ := mem_taken.mp h
      obtain ⟨e1, e2⟩ := ih a ha (by omega) (by omega)
      have hua : u (pick u n a) ≠ ⊥ := by rw [← e1, ← e, hval q hq]; exact hs
      rw [e2 hua] at e
      exact mem_taken.mpr ⟨a, ha, hinj q hq _ (isPick_pick u (by omega)).1 e⟩
    have h2 : ∀ q < n, u q ≠ ⊥ → q ∈ taken u n t → f q ∈ taken v m t := by
      intro q hq hs h
      obtain ⟨a, ha, e⟩ := mem_taken.mp h
      obtain ⟨e1, e2⟩ := ih a ha (by omega) (by omega)
      exact mem_taken.mpr ⟨a, ha, by rw [e2 (e ▸ hs), e]⟩
    by_cases hb : u (pick u n t) = ⊥
    · refine ⟨?_, fun h => absurd hb h⟩
      rw [hb]
      by_contra hne
      -- a scored position of the padded list is an entry of the short list
      have : ∃ q < n, pick v m t = f q := by
        by_contra hno
        push Not at hno
        exact hne (hout _ hv.1 hno)
      obtain ⟨q, hq, e⟩ := this
      have hs : u q ≠ ⊥ := by rw [← hval q hq, ← e]; exact hne
      have hqt : q ∉ taken u n t := fun h => hv.2.1 (e ▸ h2 q hq hs h)
      by_cases hqp : q = pick u n t
      · exact hs (hqp ▸ hb)
      · have := (hu.2.2 q hq hqt hqp).le
        rw [hb, le_bot_iff] at this
        exact hs this
    · have hmain : pick v m t = f (pick u n t) := by
        have hft : f (pick u n t) ∉ taken v m t := fun h => hu.2.1 (h1 _ hu.1 hb h)
        by_contra hne
        have hB := hv.2.2 _ (hf _ hu.1) hft (Ne.symm hne)
        have hpos : v (pick v m t) ≠ ⊥ := by
          intro h
          have := hB.le
          rw [h, le_bot_iff, hval _ hu.1] at this
          exact hb this
        have : ∃ q < n, pick v m t = f q := by
          by_contra hno
          push Not at hno
          exact hpos (hout _ hv.1 hno)
        obtain ⟨q, hq, e⟩ := this
        have hs : u q ≠ ⊥ := by rw [← hval q hq, ← e]; exact hpos
        have hqt : q ∉ taken u n t := fun h => hv.2.1 (e ▸ h2 q hq hs h)
        have hqp : q ≠ pick u n t := fun h => hne (by rw [e, h])
        exact (e ▸ hB).asymm (hbef _ hu.1 _ hq (hu.2.2 q hq hqt hqp))
      refine ⟨?_, fun _ => hmain⟩
      rw [hmain, hval _ hu.1]

end Nms
-- ==== Proof.KernelWords.lean ====
/-
  Folds over a finite set, and the words the kernel computes positions and labels in.
-/
module

public import proofs.«01_k».proof.Proof.Spec
public import Idealize.ShloMosaic.Lib.WordCmp
public import Idealize.ShloMosaic.Lib.WordArith
public import Idealize.ShloMosaic.Lib.Routing.Words

@[expose] public section

noncomputable section

namespace Nms

open Idealize.ShloMosaic

/-- The greatest value of a finite family. -/
theorem fold_top {ι : Type} [Fintype ι] (f : ι → EReal) (i : ι) (h : ∀ j, f j ≤ f i) :
    Finset.fold max (⊥ : EReal) f Finset.univ = f i :=
  le_antisymm (Finset.fold_max_le _ |>.mpr ⟨bot_le, fun j _ => h j⟩) (Finset.le_fold_max _ |>.mpr (Or.inr ⟨i, Finset.mem_univ _, le_rfl⟩))

/-- The least word of a finite family of words below the sign bit. -/
theorem fold_least {ι : Type} [Fintype ι] [DecidableEq ι] [Std.Commutative (IntOp.minsi (w := 32))] [Std.Associative (IntOp.minsi (w := 32))]
    (g : ι → ℕ) (i : ι) (hg : ∀ x, g x < 2 ^ 31) (hi : ∀ x, g i ≤ g x) :
    Finset.fold IntOp.minsi (2147483647#32) (fun x => BitVec.ofNat 32 (g x)) Finset.univ = BitVec.ofNat 32 (g i) := by
  have key : ∀ s : Finset ι, ∃ v : ℕ, Finset.fold IntOp.minsi (2147483647#32) (fun x => BitVec.ofNat 32 (g x)) s = BitVec.ofNat 32 v
      ∧ v < 2 ^ 31 ∧ (∀ x ∈ s, v ≤ g x) ∧ (v = 2147483647 ∨ ∃ x ∈ s, v = g x) := by
    intro s
    induction s using Finset.induction with
    | empty => exact ⟨2147483647, Finset.fold_empty, by omega, fun x hx => absurd hx (Finset.notMem_empty x), Or.inl rfl⟩
    | insert a s ha ih =>
      obtain ⟨v, e, hv, hle, hex⟩ := ih
      refine ⟨min (g a) v, ?_, by have := hg a; omega, ?_, ?_⟩
      · rw [Finset.fold_insert ha, e]
        apply BitVec.eq_of_toNat_eq
        have h1 : (BitVec.ofNat 32 (g a)).toNat = g a := WordCmp.toNat_ofNat_of_lt (by have := hg a; omega)
        have h2 : (BitVec.ofNat 32 v).toNat = v := WordCmp.toNat_ofNat_of_lt (by omega)
        rw [WordArith.toNat_minsi_of_lt _ _ (by rw [h1]; exact hg a) (by rw [h2]; exact hv), h1, h2,
          WordCmp.toNat_ofNat_of_lt (by have := hg a; omega)]
      · intro x hx
        rcases Finset.mem_insert.mp hx with rfl | hx
        · exact min_le_left _ _
        · exact (min_le_right _ _).trans (hle x hx)
      · rcases le_total (g a) v with h | h
        · exact Or.inr ⟨a, Finset.mem_insert_self _ _, min_eq_left h⟩
        · rw [min_eq_right h]
          rcases hex with h | ⟨x, hx, h⟩
          · exact Or.inl h
          · exact Or.inr ⟨x, Finset.mem_insert_of_mem hx, h⟩
  obtain ⟨v, e, hv, hle, hex⟩ := key Finset.univ
  rw [e]
  congr 1
  have h1 := hle i (Finset.mem_univ _)
  rcases hex with h | ⟨x, -, h⟩
  · have := hg i; omega
  · have := hi x; omega

theorem sel_if (p : Prop) [Decidable p] {α : Type} (x y : α) : Scalar.select (BitVec.ofBool (decide p)) x y = if p then x else y := by
  by_cases hp : p
  · rw [if_pos hp, decide_eq_true hp]; rfl
  · rw [if_neg hp, decide_eq_false hp]; rfl

theorem or_if (p q : Prop) [Decidable p] [Decidable q] :
    IntOp.ori (BitVec.ofBool (decide p)) (BitVec.ofBool (decide q)) = BitVec.ofBool (decide (p ∨ q)) := by
  by_cases hp : p <;> by_cases hq : q <;> simp only [hp, hq, decide_true, decide_false, or_true, true_or, or_false, or_self] <;> rfl

/-- The class of a position, as the kernel divides it out. -/
theorem class_word (p : ℕ) (hp : p < 12288) :
    Scalar.select (Scalar.andi (Scalar.cmpi .ne (Scalar.subi (Scalar.extui (Scalar.cmpi .sgt (BitVec.ofNat 32 p) 0#32)) (Scalar.extui (Scalar.cmpi .slt (BitVec.ofNat 32 p) 0#32)))
        (Scalar.subi (Scalar.extui (Scalar.cmpi .sgt 512#32 0#32)) (Scalar.extui (Scalar.cmpi .slt 512#32 0#32))))
      (Scalar.cmpi .ne (Scalar.remsi (BitVec.ofNat 32 p) 512#32) 0#32)) (Scalar.subi (Scalar.divsi (BitVec.ofNat 32 p) 512#32) 1#32)
      (Scalar.divsi (BitVec.ofNat 32 p) 512#32) = BitVec.ofNat 32 (p / 512) := by
  have hd : Scalar.divsi (BitVec.ofNat 32 p) 512#32 = BitVec.ofNat 32 (p / 512) := Routing.divsi_word .scalar (by omega) (by omega) (by omega)
  have hr : Scalar.remsi (BitVec.ofNat 32 p) 512#32 = BitVec.ofNat 32 (p % 512) := Routing.remsi_word .scalar (by omega) (by omega) (by omega)
  rw [hd, hr]
  have h1 : Scalar.cmpi .slt (BitVec.ofNat 32 p) 0#32 = 0#1 :=
    (WordCmp.cmpi_slt_ofNat (w := 32) (a := p) (b := 0) (by omega) (by omega)).trans (by rw [decide_eq_false (by omega)]; rfl)
  rw [h1]
  by_cases h0 : p = 0
  · subst h0; decide
  · have h2 : Scalar.cmpi .sgt (BitVec.ofNat 32 p) 0#32 = 1#1 :=
      (WordCmp.cmpi_sgt_ofNat (w := 32) (a := p) (b := 0) (by omega) (by omega)).trans (by rw [decide_eq_true (by omega)]; rfl)
    rw [h2]
    have h3 : Scalar.cmpi .ne (Scalar.subi (Scalar.extui 1#1) (Scalar.extui 0#1)) (Scalar.subi (Scalar.extui (Scalar.cmpi .sgt 512#32 0#32)) (Scalar.extui (Scalar.cmpi .slt 512#32 0#32))) = 0#1 := by
      decide
    rw [h3]
    have h4 : ∀ x : BitVec 1, Scalar.andi 0#1 x = 0#1 := by decide
    rw [h4]
    rfl

end Nms
-- ==== Proof.TopK.lean ====
/-
  The host's choice of the greatest entries along the last axis, read as the choices of `Proof/Spec.lean`: the entry
  at position `t` of the result is the one that round `t` picks.
-/
module

public import proofs.«01_k».proof.Proof.Spec
public import Idealize.ShloMosaic.Lib.SortFacts

@[expose] public section

noncomputable section

namespace Nms

open Idealize.ShloMosaic

/-- A list read as a function of all naturals, with nothing past its end. -/
def ext {n : ℕ} (w : Fin n → EReal) (q : ℕ) : EReal := if h : q < n then w ⟨q, h⟩ else ⊥

theorem ext_val {n : ℕ} (w : Fin n → EReal) (q : Fin n) : ext w q.val = w q := by
  unfold ext; rw [dif_pos q.isLt]

/-- `Before` decided. -/
def beforeB {n : ℕ} (w : Fin n → EReal) (a b : Fin n) : Bool :=
  @decide (Before (ext w) a.val b.val) (Classical.dec _)

theorem beforeB_iff {n : ℕ} (w : Fin n → EReal) (a b : Fin n) : beforeB w a b = true ↔ Before (ext w) a.val b.val := by
  unfold beforeB; exact @decide_eq_true_iff _ (Classical.dec _)

theorem beforeB_total {n : ℕ} {w : Fin n → EReal} {a b : Fin n} (hne : a ≠ b) (h : beforeB w b a = false) :
    Before (ext w) a.val b.val := by
  have h' : ¬ Before (ext w) b.val a.val := by
    intro hb
    rw [(beforeB_iff w b a).mpr hb] at h
    exact Bool.noConfusion h
  have hv : a.val ≠ b.val := fun e => hne (Fin.ext e)
  unfold Before at h' ⊢
  push Not at h'
  rcases lt_or_eq_of_le h'.1 with hl | he
  · exact Or.inl hl
  · have := h'.2 he.symm
    exact Or.inr ⟨he, by omega⟩

/-- Sorting an increasing list by "greater" alone is sorting it by "greater, or equal and earlier". -/
theorem stableSort_greater {n : ℕ} (w : Fin n → EReal) (R : Fin n → Fin n → Bool) (hR : ∀ a b, R a b = true ↔ w b < w a)
    (l : List (Fin n)) (hl : l.Pairwise (· < ·)) : stableSort R l = stableSort (beforeB w) l := by
  induction l with
  | nil => rfl
  | cons a l ih =>
    rw [List.pairwise_cons] at hl
    unfold stableSort
    rw [ih hl.2]
    refine insertBefore_congr R (beforeB w) a _ fun b hb => ?_
    have hab : a < b := hl.1 b ((perm_stableSort _ l).mem_iff.mp hb)
    rw [Bool.eq_iff_iff, hR, beforeB_iff]
    unfold Before
    rw [ext_val, ext_val]
    constructor
    · exact Or.inl
    · rintro (h | ⟨_, h⟩)
      · exact h
      · exact absurd h (by have := Fin.lt_def.mp hab; omega)

theorem sortedFrom_eq_pick {n : ℕ} (w : Fin n → EReal) (R : Fin n → Fin n → Bool) (hR : ∀ a b, R a b = true ↔ w b < w a)
    (t : Fin n) : (sortedFrom R t).val = pick (ext w) n t.val := by
  have hB : sortedFrom R = sortedFrom (beforeB w) := by
    have : sortPositions n R = sortPositions n (beforeB w) :=
      stableSort_greater w R hR (List.finRange n) (List.pairwise_lt_finRange n)
    funext k
    unfold sortedFrom
    rw [List.get_of_eq this]
    rfl
  rw [hB]
  have hsorted : ∀ i j : Fin n, i < j → Before (ext w) (sortedFrom (beforeB w) i).val (sortedFrom (beforeB w) j).val := by
    intro i j hij
    refine beforeB_total (fun e => hij.ne (sortedFrom_injective _ e)) ?_
    refine sortedFrom_noInversion (beforeB w) (beforeB w) ?_ (fun _ _ h => h) ?_ i j hij
    · intro a b h
      by_contra hne
      rw [Bool.not_eq_false] at hne
      exact ((beforeB_iff w a b).mp h).asymm ((beforeB_iff w b a).mp hne)
    · intro a b c h1 h2
      by_contra hne
      rw [Bool.not_eq_false] at hne
      have hac := (beforeB_iff w a c).mp hne
      by_cases hab : a = b
      · subst hab; rw [hne] at h2; exact Bool.noConfusion h2
      by_cases hbc : b = c
      · subst hbc; rw [hne] at h1; exact Bool.noConfusion h1
      have k1 := beforeB_total (Ne.symm hab) h1
      have k2 := beforeB_total (Ne.symm hbc) h2
      -- c before b, b before a, a before c
      unfold Before at hac k1 k2
      rcases hac with hac | ⟨e, hac⟩ <;> rcases k1 with k1 | ⟨e1, k1⟩ <;> rcases k2 with k2 | ⟨e2, k2⟩
      · exact lt_asymm hac (k1.trans k2)
      · rw [e2] at k1; exact lt_asymm hac k1
      · rw [← e1] at k2; exact lt_asymm hac k2
      · rw [e1, e2] at hac; exact lt_irrefl _ hac
      · rw [e] at k2; exact lt_asymm k1 k2
      · rw [← e, e2] at k1; exact lt_irrefl _ k1
      · rw [e, ← e1] at k2; exact lt_irrefl _ k2
      · omega
  have key := pick_of_sorted (v := ext w) (n := n) (T := n)
    (fun q => if h : q < n then (sortedFrom (beforeB w) ⟨q, h⟩).val else 0) ?_ ?_ ?_ t.val t.isLt
  · rw [key, dif_pos t.isLt]
  · intro q hq
    rw [dif_pos hq]
    exact (sortedFrom (beforeB w) ⟨q, hq⟩).isLt
  · intro a ha b hb hab e
    rw [dif_pos ha, dif_pos hb] at e
    have := sortedFrom_injective _ (Fin.ext e)
    exact absurd (congrArg Fin.val this) hab.ne
  · intro a ha q hq hno
    rw [dif_pos ha]
    obtain ⟨b, hb⟩ := sortedFrom_surjective (beforeB w) ⟨q, hq⟩
    have hab : a < b.val := by
      by_contra hle
      push Not at hle
      refine hno b.val hle ?_
      rw [dif_pos b.isLt]
      show q = (sortedFrom (beforeB w) b).val
      rw [hb]
    have := hsorted ⟨a, ha⟩ b hab
    rw [hb] at this
    exact this

theorem gt_iff (a b : Ideal .f32) : ((FloatOps.cmpfTotal (F := Ideal) .gt a b == 1#1) = true) ↔ (b : EReal) < a := by
  show ((BitVec.ofBool (decide ((a : EReal) > b)) == 1#1) = true) ↔ _
  by_cases h : (b : EReal) < a
  · simp [h]
  · simp [h]

/-- The first pick of a list that never rises above its end is its first greatest place. -/
theorem isTop_pick {s : ℕ → EReal} {n : ℕ} (hn : 0 < n) (hs : ∀ q, n ≤ q → s q = ⊥) : IsTop s (pick s n 0) := by
  have hp := isPick_pick s hn
  constructor
  · intro j
    by_cases hj : j < n
    · by_cases e : j = pick s n 0
      · rw [← e]
      · exact (hp.2.2 j hj (Finset.notMem_empty j) e).le
    · rw [hs j (by omega)]; exact bot_le
  · intro j e
    by_contra hlt
    push Not at hlt
    rcases hp.2.2 j (hlt.trans hp.1) (Finset.notMem_empty j) hlt.ne with h | ⟨_, h⟩
    · rw [e] at h; exact lt_irrefl _ h
    · omega

theorem topK_row (x : (⟨2, ![4, 6000]⟩ : Shape).Idx → Ideal .f32)
    (h : (⟨2, ![4, 6000]⟩ : Shape).Slices (fun _ => 0) ⟨2, ![4, 300]⟩) (b : Fin 4) (t : Fin 300) :
    (Host.topK ⟨2, ![4, 300]⟩ 1 (FloatOps.cmpfTotal .gt) x h).2 (ix2 b t)
        = BitVec.ofNat 32 (pick (ext fun q : Fin 6000 => (x (ix2 b q) : EReal)) 6000 t.val)
    ∧ (Host.topK ⟨2, ![4, 300]⟩ 1 (FloatOps.cmpfTotal .gt) x h).1 (ix2 b t)
        = ext (fun q : Fin 6000 => (x (ix2 b q) : EReal)) (pick (ext fun q : Fin 6000 => (x (ix2 b q) : EReal)) 6000 t.val) := by
  have hal : ∀ k : Fin 6000, (ix2 b ⟨t.val, by omega⟩ : (⟨2, ![4, 6000]⟩ : Shape).Idx).along (1 : Fin 2) k = ix2 b k := by
    intro k
    funext a
    match a with
    | 0 => rfl
    | 1 => rfl
  have hsl : ∀ y : (⟨2, ![4, 6000]⟩ : Shape).Idx → BitVec 32, extractStridedSlice ⟨2, ![4, 300]⟩ (fun _ => 0) y h (ix2 b t)
      = y (ix2 b ⟨t.val, by omega⟩) := by
    intro y
    unfold extractStridedSlice
    refine congrArg y ?_
    funext a
    match a with
    | 0 => exact Fin.ext (Nat.zero_add _)
    | 1 => exact Fin.ext (Nat.zero_add _)
  have hsl' : ∀ y : (⟨2, ![4, 6000]⟩ : Shape).Idx → Ideal .f32, extractStridedSlice ⟨2, ![4, 300]⟩ (fun _ => 0) y h (ix2 b t)
      = y (ix2 b ⟨t.val, by omega⟩) := by
    intro y
    unfold extractStridedSlice
    refine congrArg y ?_
    funext a
    match a with
    | 0 => exact Fin.ext (Nat.zero_add _)
    | 1 => exact Fin.ext (Nat.zero_add _)
  have key := sortedFrom_eq_pick (fun q : Fin 6000 => (x (ix2 b q) : EReal))
    (fun k k' => FloatOps.cmpfTotal (F := Ideal) (φ := .f32) .gt (x (ix2 b k)) (x (ix2 b k')) == 1#1)
    (fun a c => gt_iff _ _) ⟨t.val, by omega⟩
  unfold Host.topK
  dsimp only
  rw [hsl, hsl']
  unfold Host.sort2
  rw [dif_pos (by decide : 1 < (⟨2, ![4, 6000]⟩ : Shape).rank)]
  constructor
  · show (if hd : 1 < 2 then iotaInDim (⟨2, ![4, 6000]⟩ : Shape) 32 ⟨1, hd⟩ _ else 0#32) = _
    rw [dif_pos (by decide)]
    rw [← key]
    unfold iotaInDim
    refine congrArg (BitVec.ofNat 32) ?_
    show ((ix2 b ⟨t.val, _⟩ : (⟨2, ![4, 6000]⟩ : Shape).Idx).along (1 : Fin 2) _ (1 : Fin 2)).val = _
    simp only [Shape.Idx.along, Function.update_self]
    refine congrArg (fun R => (sortedFrom R (⟨t.val, by omega⟩ : Fin 6000)).val) ?_
    funext k k'
    have e1 := hal k
    have e2 := hal k'
    unfold Shape.Idx.along at e1 e2
    exact congrArg₂ (fun p q => FloatOps.cmpfTotal (F := Ideal) (φ := .f32) .gt (x p) (x q) == 1#1) e1 e2
  · rw [← key, ext_val]
    refine congrArg x ?_
    refine (hal _).trans ?_
    refine congrArg (ix2 b) ?_
    refine congrArg (fun R => sortedFrom R (⟨t.val, by omega⟩ : Fin 6000)) ?_
    funext k k'
    exact congrArg₂ (fun p q => FloatOps.cmpfTotal (F := Ideal) (φ := .f32) .gt (x p) (x q) == 1#1) (hal k) (hal k')

theorem topK_one (x : (⟨3, ![4, 20, 5001]⟩ : Shape).Idx → Ideal .f32)
    (h : (⟨3, ![4, 20, 5001]⟩ : Shape).Slices (fun _ => 0) ⟨3, ![4, 20, 1]⟩) (b : Fin 4) (c : Fin 20) :
    (Host.topK ⟨3, ![4, 20, 1]⟩ 2 (FloatOps.cmpfTotal .gt) x h).2 (ix3 b c 0)
        = BitVec.ofNat 32 (top (ext fun q : Fin 5001 => (x (ix3 b c q) : EReal)))
    ∧ (Host.topK ⟨3, ![4, 20, 1]⟩ 2 (FloatOps.cmpfTotal .gt) x h).1 (ix3 b c 0)
        = ext (fun q : Fin 5001 => (x (ix3 b c q) : EReal)) (top (ext fun q : Fin 5001 => (x (ix3 b c q) : EReal))) := by
  have hal : ∀ k : Fin 5001, (ix3 b c 0 : (⟨3, ![4, 20, 5001]⟩ : Shape).Idx).along (2 : Fin 3) k = ix3 b c k := by
    intro k
    funext a
    match a with
    | 0 => rfl
    | 1 => rfl
    | 2 => rfl
  have hsl : ∀ y : (⟨3, ![4, 20, 5001]⟩ : Shape).Idx → BitVec 32, extractStridedSlice ⟨3, ![4, 20, 1]⟩ (fun _ => 0) y h (ix3 b c 0)
      = y (ix3 b c 0) := by
    intro y
    unfold extractStridedSlice
    refine congrArg y ?_
    funext a
    match a with
    | 0 => exact Fin.ext (Nat.zero_add _)
    | 1 => exact Fin.ext (Nat.zero_add _)
    | 2 => rfl
  have hsl' : ∀ y : (⟨3, ![4, 20, 5001]⟩ : Shape).Idx → Ideal .f32, extractStridedSlice ⟨3, ![4, 20, 1]⟩ (fun _ => 0) y h (ix3 b c 0)
      = y (ix3 b c 0) := by
    intro y
    unfold extractStridedSlice
    refine congrArg y ?_
    funext a
    match a with
    | 0 => exact Fin.ext (Nat.zero_add _)
    | 1 => exact Fin.ext (Nat.zero_add _)
    | 2 => rfl
  have htop : top (ext fun q : Fin 5001 => (x (ix3 b c q) : EReal)) = pick (ext fun q : Fin 5001 => (x (ix3 b c q) : EReal)) 5001 0 := by
    refine (isTop_pick (by omega) fun q hq => ?_).top_eq
    unfold ext; rw [dif_neg (by omega)]
  rw [htop]
  have key := sortedFrom_eq_pick (fun q : Fin 5001 => (x (ix3 b c q) : EReal))
    (fun k k' => FloatOps.cmpfTotal (F := Ideal) (φ := .f32) .gt (x (ix3 b c k)) (x (ix3 b c k')) == 1#1)
    (fun a d => gt_iff _ _) 0
  replace key : _ = pick _ 5001 0 := key
  unfold Host.topK
  dsimp only
  rw [hsl, hsl']
  unfold Host.sort2
  rw [dif_pos (by decide : 2 < (⟨3, ![4, 20, 5001]⟩ : Shape).rank)]
  constructor
  · show (if hd : 2 < 3 then iotaInDim (⟨3, ![4, 20, 5001]⟩ : Shape) 32 ⟨2, hd⟩ _ else 0#32) = _
    rw [dif_pos (by decide)]
    rw [← key]
    unfold iotaInDim
    refine congrArg (BitVec.ofNat 32) ?_
    show ((ix3 b c 0 : (⟨3, ![4, 20, 5001]⟩ : Shape).Idx).along (2 : Fin 3) _ (2 : Fin 3)).val = _
    simp only [Shape.Idx.along, Function.update_self]
    refine congrArg (fun R => (sortedFrom R (0 : Fin 5001)).val) ?_
    funext k k'
    have e1 := hal k
    have e2 := hal k'
    unfold Shape.Idx.along at e1 e2
    exact congrArg₂ (fun p q => FloatOps.cmpfTotal (F := Ideal) (φ := .f32) .gt (x p) (x q) == 1#1) e1 e2
  · rw [← key, ext_val]
    refine congrArg x ?_
    refine (hal _).trans ?_
    refine congrArg (ix3 b c) ?_
    refine congrArg (fun R => sortedFrom R (0 : Fin 5001)) ?_
    funext k k'
    exact congrArg₂ (fun p q => FloatOps.cmpfTotal (F := Ideal) (φ := .f32) .gt (x p) (x q) == 1#1) (hal k) (hal k')

end Nms
-- ==== Proof.KernelPay.lean ====
/-
  What the kernel computes in one round of either loop, entry by entry.
-/
module

public import proofs.«01_k».proof.Proof.KernelWords
public import proofs.«01_k».proof.Proof.TopK
public import proofs.«01_k».proof.Proof.Gen.KernelIdeal.Skeleton

@[expose] public section

set_option maxRecDepth 20000

noncomputable section

namespace Cert.KernelIdeal.Own

open Cert.KernelIdeal Cert.KernelIdeal.Gen Nms
open Idealize.ShloMosaic Idealize.ShloMosaic.TcCoe

theorem ninf : Ideal.ofBits FTy.f32 4286578688#32 = ⊥ := by
  simp [Ideal.ofBits, Ideal.ieee]

/-! ## A round of suppression, in one class's row -/

section row

variable {v44 : S24x5120.Idx → BitVec 32} {s : S24x5120.Idx → EReal} {v1 v3 v5 v7 v14 : S1x5120.Idx → EReal} {c : Fin 24} {σ : ℕ → EReal}
  {x : Fin 4 → ℕ → EReal}

theorem top_row (hb : ∀ q, 5120 ≤ q → σ q = ⊥) : IsTop σ (top σ) ∧ top σ < 5120 := by
  have h1 := isTop_pick (s := σ) (n := 5120) (by omega) hb
  have h2 := (isPick_pick σ (n := 5120) (t := 0) (by omega)).1
  rw [h1.top_eq]
  exact ⟨h1, h2⟩

theorem row_best (hs : ∀ j : Fin 5120, s (ix2 c j) = σ j.val) (hb : ∀ q, 5120 ≤ q → σ q = ⊥) :
    (k0_pay4 (F := Ideal) s : S24x1.Idx → EReal) (ix2 c 0) = σ (top σ) := by
  obtain ⟨h1, h2⟩ := top_row hb
  unfold k0_pay4
  pointwise
  rw [ninf]
  refine (fold_top _ (⟨top σ, h2⟩ : Fin 5120) fun j => ?_).trans (hs _)
  rw [hs, hs]
  exact h1.1 _

theorem row_keep (hs : ∀ j : Fin 5120, s (ix2 c j) = σ j.val) (hb : ∀ q, 5120 ≤ q → σ q = ⊥) :
    (k0_pay5 (F := Ideal) s : S24x1.Idx → BitVec 1) (ix2 c 0) = BitVec.ofBool (decide (σ (top σ) ≠ ⊥)) := by
  unfold k0_pay5
  pointwise
  rw [row_best hs hb, ninf]
  congr 1
  exact decide_eq_decide.mpr bot_lt_iff_ne_bot

theorem row_hot (hw : ∀ j : Fin 5120, v44 (ix2 c j) = BitVec.ofNat 32 j.val) (hs : ∀ j : Fin 5120, s (ix2 c j) = σ j.val)
    (hb : ∀ q, 5120 ≤ q → σ q = ⊥) (j : Fin 5120) :
    (k0_pay6 (F := Ideal) v44 s : S24x5120.Idx → BitVec 1) (ix2 c j) = BitVec.ofBool (decide (j.val = top σ)) := by
  obtain ⟨h1, h2⟩ := top_row hb
  unfold k0_pay6
  pointwise
  rw [row_best hs hb, hw]
  have hj := j.isLt
  have e : (fun x : Fin 5120 => if s (ix2 c x) = σ (top σ) then v44 (ix2 c x) else 5120#32)
      = fun x : Fin 5120 => BitVec.ofNat 32 (if σ x.val = σ (top σ) then x.val else 5120) := by
    funext x
    rw [hs, hw]
    split <;> rfl
  have e2 := fold_least (fun x : Fin 5120 => if σ x.val = σ (top σ) then x.val else 5120) ⟨top σ, h2⟩
    (fun x => by have := x.isLt; split <;> omega) (fun x => by
      dsimp only
      rw [if_pos rfl]
      split
      · exact h1.2 _ (by assumption)
      · omega)
  rw [e]
  refine (congrArg _ e2).trans ?_
  dsimp only
  rw [if_pos rfl, WordCmp.cmpi_eq_ofNat (by omega) (by omega)]

theorem hot_sum {hot : Fin 5120 → BitVec 1} {y : Fin 5120 → EReal} {i : ℕ} (hi : i < 5120)
    (h : ∀ j, hot j = BitVec.ofBool (decide (j.val = i))) : ∑ j, Scalar.select (hot j) (y j) 0 = y ⟨i, hi⟩ := by
  rw [Finset.sum_eq_single (⟨i, hi⟩ : Fin 5120)]
  · rw [h, sel_if, if_pos rfl]
  · intro j _ hj
    rw [h, sel_if, if_neg fun e => hj (Fin.ext e)]
  · exact fun h => absurd (Finset.mem_univ _) h

variable (hw : ∀ j : Fin 5120, v44 (ix2 c j) = BitVec.ofNat 32 j.val) (hs : ∀ j : Fin 5120, s (ix2 c j) = σ j.val)
  (hb : ∀ q, 5120 ≤ q → σ q = ⊥) (h1 : ∀ j : Fin 5120, v1 (ix2 0 j) = x 0 j.val) (h3 : ∀ j : Fin 5120, v3 (ix2 0 j) = x 1 j.val)
  (h5 : ∀ j : Fin 5120, v5 (ix2 0 j) = x 2 j.val) (h7 : ∀ j : Fin 5120, v7 (ix2 0 j) = x 3 j.val)
  (h14 : ∀ j : Fin 5120, v14 (ix2 0 j) = area x j.val)
include hw hs hb

theorem row_x1 (h1 : ∀ j : Fin 5120, v1 (ix2 0 j) = x 0 j.val) :
    (k0_pay7 (F := Ideal) v1 v44 s : S24x1.Idx → EReal) (ix2 c 0) = x 0 (top σ) := by
  unfold k0_pay7
  pointwise
  exact (hot_sum (top_row hb).2 fun j => row_hot hw hs hb j).trans (h1 _)
theorem row_y1 (h3 : ∀ j : Fin 5120, v3 (ix2 0 j) = x 1 j.val) :
    (k0_pay8 (F := Ideal) v3 v44 s : S24x1.Idx → EReal) (ix2 c 0) = x 1 (top σ) := by
  unfold k0_pay8
  pointwise
  exact (hot_sum (top_row hb).2 fun j => row_hot hw hs hb j).trans (h3 _)
theorem row_x2 (h5 : ∀ j : Fin 5120, v5 (ix2 0 j) = x 2 j.val) :
    (k0_pay9 (F := Ideal) v5 v44 s : S24x1.Idx → EReal) (ix2 c 0) = x 2 (top σ) := by
  unfold k0_pay9
  pointwise
  exact (hot_sum (top_row hb).2 fun j => row_hot hw hs hb j).trans (h5 _)
theorem row_y2 (h7 : ∀ j : Fin 5120, v7 (ix2 0 j) = x 3 j.val) :
    (k0_pay10 (F := Ideal) v7 v44 s : S24x1.Idx → EReal) (ix2 c 0) = x 3 (top σ) := by
  unfold k0_pay10
  pointwise
  exact (hot_sum (top_row hb).2 fun j => row_hot hw hs hb j).trans (h7 _)

include h1 h3 h5 h7 h14 in
/-- The scores after the round. -/
theorem row_strike (j : Fin 5120) :
    (k0_pay15 (F := Ideal) v7 v14 s (k0_pay6 (F := Ideal) v44 s) (k0_pay7 (F := Ideal) v1 v44 s) (k0_pay8 (F := Ideal) v3 v44 s)
      (k0_pay9 (F := Ideal) v5 v44 s) (k0_pay10 (F := Ideal) v7 v44 s)
      (k0_pay11 (F := Ideal) v1 v44 s) (k0_pay12 (F := Ideal) v3 v44 s) (k0_pay13 (F := Ideal) v5 v44 s) (k0_pay14 (F := Ideal) v5) : S24x5120.Idx → EReal) (ix2 c j) = strike x σ j.val := by
  unfold k0_pay15 k0_pay11 k0_pay12 k0_pay13 k0_pay14
  pointwise
  rw [row_hot hw hs hb, row_x1 hw hs hb h1, row_y1 hw hs hb h3, row_x2 hw hs hb h5, row_y2 hw hs hb h7, h1, h3, h5, h7, h14, hs,
    or_if, sel_if, ninf]
  rfl

end row

/-- The slot a round writes, in the kept results' rows. -/
theorem slot_word {v45 : S24x512.Idx → BitVec 32} (hw : ∀ (c : Fin 24) (l : Fin 512), v45 (ix2 c l) = BitVec.ofNat 32 l.val)
    {t : ℕ} (ht : t < 300) (c : Fin 24) (l : Fin 512) :
    (k0_pay16 v45 (BitVec.ofNat 32 t) : S24x512.Idx → BitVec 1) (ix2 c l) = BitVec.ofBool (decide (l.val = t)) := by
  unfold k0_pay16
  pointwise
  rw [hw]
  have := l.isLt
  exact WordCmp.cmpi_eq_ofNat (by omega) (by omega)

/-- The kept scores after a round. -/
theorem rec_score {v45 : S24x512.Idx → BitVec 32} (hw : ∀ (c : Fin 24) (l : Fin 512), v45 (ix2 c l) = BitVec.ofNat 32 l.val)
    {t : ℕ} (ht : t < 300) {v72 : S24x1.Idx → EReal} {v80 : S24x1.Idx → BitVec 1} {v154 : S24x512.Idx → EReal} {c : Fin 24} {y : EReal}
    (h72 : v72 (ix2 c 0) = y) (h80 : v80 (ix2 c 0) = BitVec.ofBool (decide (y ≠ ⊥))) (l : Fin 512) :
    (k0_pay18 (F := Ideal) (k0_pay17 v45 (BitVec.ofNat 32 t) v72 v80 v154) : S24x512.Idx → EReal) (ix2 c l)
      = if l.val = t then y else v154 (ix2 c l) := by
  unfold k0_pay18 k0_pay17
  pointwise
  rw [slot_word hw ht, h72, h80, sel_if, sel_if, ninf]
  by_cases hy : y = ⊥
  · rw [if_neg (not_not.mpr hy), hy]
  · rw [if_pos hy]

section kept
variable {v45 : S24x512.Idx → BitVec 32} (hw : ∀ (c : Fin 24) (l : Fin 512), v45 (ix2 c l) = BitVec.ofNat 32 l.val)
    {t : ℕ} (ht : t < 300) {v88 : S24x1.Idx → EReal} {v80 : S24x1.Idx → BitVec 1} {v154 : S24x512.Idx → EReal} {c : Fin 24} {y z : EReal}
    (h88 : v88 (ix2 c 0) = z) (h80 : v80 (ix2 c 0) = BitVec.ofBool (decide (y ≠ ⊥))) (l : Fin 512)
include hw ht h88 h80

theorem rec_x1 : (k0_pay19 (F := Ideal) v80 v88 (k0_pay16 v45 (BitVec.ofNat 32 t)) v154 : S24x512.Idx → EReal) (ix2 c l)
      = if l.val = t then (if y ≠ ⊥ then z else 0) else v154 (ix2 c l) := by
  unfold k0_pay19
  pointwise
  rw [slot_word hw ht, h88, h80, sel_if, sel_if]
theorem rec_y1 : (k0_pay20 (F := Ideal) v80 v88 (k0_pay16 v45 (BitVec.ofNat 32 t)) v154 : S24x512.Idx → EReal) (ix2 c l)
      = if l.val = t then (if y ≠ ⊥ then z else 0) else v154 (ix2 c l) := by
  unfold k0_pay20
  pointwise
  rw [slot_word hw ht, h88, h80, sel_if, sel_if]
theorem rec_x2 : (k0_pay21 (F := Ideal) v80 v88 (k0_pay16 v45 (BitVec.ofNat 32 t)) v154 : S24x512.Idx → EReal) (ix2 c l)
      = if l.val = t then (if y ≠ ⊥ then z else 0) else v154 (ix2 c l) := by
  unfold k0_pay21
  pointwise
  rw [slot_word hw ht, h88, h80, sel_if, sel_if]
theorem rec_y2 : (k0_pay46 (F := Ideal) (k0_pay22 v80 v88 (k0_pay16 v45 (BitVec.ofNat 32 t)) v154) : S24x512.Idx → EReal) (ix2 c l)
      = if l.val = t then (if y ≠ ⊥ then z else 0) else v154 (ix2 c l) := by
  unfold k0_pay46 k0_pay22
  pointwise
  rw [slot_word hw ht, h88, h80, sel_if, sel_if]

end kept

/-! ## A round of the merge -/

/-- The place of row `r`, column `l`. -/
def pos (r : Fin 24) (l : Fin 512) : ℕ := r.val * 512 + l.val

theorem pos_lt (r : Fin 24) (l : Fin 512) : pos r l < 12288 := by unfold pos; omega

theorem pos_surj {p : ℕ} (hp : p < 12288) : ∃ r l, pos r l = p :=
  ⟨⟨p / 512, by omega⟩, ⟨p % 512, by omega⟩, by unfold pos; dsimp only; omega⟩

theorem pos_inj {r r' : Fin 24} {l l' : Fin 512} (h : pos r l = pos r' l') : r = r' ∧ l = l' := by
  unfold pos at h
  exact ⟨Fin.ext (by omega), Fin.ext (by omega)⟩

section merge

variable {P : S24x512.Idx → BitVec 32} {R : S24x512.Idx → EReal} {v : ℕ → EReal} {T : Finset ℕ} {p : ℕ}
  (hP : ∀ r l, P (ix2 r l) = BitVec.ofNat 32 (if pos r l ∈ T then 1073741824 else pos r l)) (hR : ∀ r l, R (ix2 r l) = v (pos r l))
  (hp : IsPick v 12288 T p)

include hP hR in
theorem merge_vals (r : Fin 24) (l : Fin 512) :
    (k0_pay23 (F := Ideal) P R : S24x512.Idx → EReal) (ix2 r l) = if pos r l ∈ T then ⊥ else v (pos r l) := by
  unfold k0_pay23
  pointwise
  rw [hP, hR, ninf]
  have := pos_lt r l
  have e : IntOp.cmpi .slt (BitVec.ofNat 32 (if pos r l ∈ T then 1073741824 else pos r l)) 1073741824#32
      = BitVec.ofBool (decide ((if pos r l ∈ T then 1073741824 else pos r l) < 1073741824)) :=
    WordCmp.cmpi_slt_ofNat (by split <;> omega) (by omega)
  rw [e, sel_if]
  by_cases h : pos r l ∈ T
  · rw [if_pos h, if_pos h, if_neg (by omega)]
  · rw [if_neg h, if_neg h, if_pos (by omega)]

include hP hR hp

theorem merge_best : (k0_pay24 (F := Ideal) P R : EReal) = v p := by
  obtain ⟨r, l, e⟩ := pos_surj hp.1
  unfold k0_pay24
  pointwise
  rw [ninf]
  have e1 : (k0_pay23 (F := Ideal) P R : S24x512.Idx → EReal) (ix2 r l) = v p := by
    rw [merge_vals hP hR, e, if_neg hp.2.1]
  refine (fold_top _ ((r, l) : Fin 24 × Fin 512) fun j => ?_).trans e1
  rw [e1, merge_vals hP hR]
  by_cases h : pos j.1 j.2 ∈ T
  · rw [if_pos h]; exact bot_le
  · rw [if_neg h]
    by_cases hq : pos j.1 j.2 = p
    · rw [hq]
    · exact (hp.2.2 _ (pos_lt _ _) h hq).le

theorem merge_least : (k0_pay25 (F := Ideal) P R : S1x1x1.Idx → BitVec 32) (ix3 0 0 0) = BitVec.ofNat 32 p := by
  obtain ⟨r, l, e⟩ := pos_surj hp.1
  unfold k0_pay25
  pointwise
  rw [merge_best hP hR hp]
  have e1 : (fun x : Fin 24 × Fin 512 => if (k0_pay23 (F := Ideal) P R : S24x512.Idx → EReal) (ix2 x.1 x.2) = v p then P (ix2 x.1 x.2) else 1073741824#32)
      = fun x : Fin 24 × Fin 512 => BitVec.ofNat 32 (if (k0_pay23 (F := Ideal) P R : S24x512.Idx → EReal) (ix2 x.1 x.2) = v p then
          (if pos x.1 x.2 ∈ T then 1073741824 else pos x.1 x.2) else 1073741824) := by
    funext x
    rw [hP]
    split <;> rfl
  have hval : (if (k0_pay23 (F := Ideal) P R : S24x512.Idx → EReal) (ix2 r l) = v p then
          (if pos r l ∈ T then 1073741824 else pos r l) else 1073741824) = p := by
    rw [merge_vals hP hR, e, if_neg hp.2.1, if_pos rfl, if_neg hp.2.1]
  have e2 := fold_least (fun x : Fin 24 × Fin 512 => if (k0_pay23 (F := Ideal) P R : S24x512.Idx → EReal) (ix2 x.1 x.2) = v p then
          (if pos x.1 x.2 ∈ T then 1073741824 else pos x.1 x.2) else 1073741824) (r, l)
    (fun x => by have := pos_lt x.1 x.2; split <;> [split; skip] <;> omega) (fun x => by
      have hp1 := hp.1
      dsimp only
      rw [hval]
      by_cases h : pos x.1 x.2 ∈ T
      · rw [if_pos h]; split <;> omega
      · rw [if_neg h, merge_vals hP hR, if_neg h]
        split
        · rename_i hv
          by_cases hq : pos x.1 x.2 = p
          · omega
          · rcases hp.2.2 _ (pos_lt _ _) h hq with h' | h'
            · exact absurd hv h'.ne
            · omega
        · omega)
  rw [e1]
  refine e2.trans ?_
  dsimp only
  rw [hval]

theorem merge_hot (r : Fin 24) (l : Fin 512) :
    (k0_pay26 (F := Ideal) P R : S24x512.Idx → BitVec 1) (ix2 r l) = BitVec.ofBool (decide (pos r l = p)) := by
  have hp1 := hp.1
  have := pos_lt r l
  unfold k0_pay26
  pointwise
  rw [merge_least hP hR hp, hP, WordCmp.cmpi_eq_ofNat (by split <;> omega) (by omega)]
  congr 1
  refine decide_eq_decide.mpr ?_
  by_cases h : pos r l ∈ T
  · rw [if_pos h]
    exact ⟨fun e => by omega, fun e => absurd (e ▸ h) hp.2.1⟩
  · rw [if_neg h]

theorem merge_spent (r : Fin 24) (l : Fin 512) :
    (k0_pay50 (F := Ideal) P (k0_pay26 (F := Ideal) P R) : S24x512.Idx → BitVec 32) (ix2 r l)
      = BitVec.ofNat 32 (if pos r l ∈ insert p T then 1073741824 else pos r l) := by
  unfold k0_pay50
  pointwise
  rw [merge_hot hP hR hp, sel_if, hP]
  by_cases h : pos r l = p
  · rw [if_pos h, if_pos (Finset.mem_insert.mpr (Or.inl h))]
  · rw [if_neg h]
    congr 1
    exact if_congr (by rw [Finset.mem_insert]; exact ⟨Or.inr, fun h' => h'.resolve_left h⟩) rfl rfl

end merge

theorem hot_total {hot : S24x512.Idx → BitVec 1} {y : S24x512.Idx → EReal} {p : ℕ} {r : Fin 24} {l : Fin 512} (hp : pos r l = p)
    (h : ∀ r l, hot (ix2 r l) = BitVec.ofBool (decide (pos r l = p))) :
    ∑ a, ∑ b, Scalar.select (hot (ix2 a b)) (y (ix2 a b)) 0 = y (ix2 r l) := by
  rw [Finset.sum_eq_single r]
  · rw [Finset.sum_eq_single l]
    · rw [h, sel_if, if_pos hp]
    · intro b _ hb
      rw [h, sel_if, if_neg fun e => hb (pos_inj (e.trans hp.symm)).2]
    · exact fun h => absurd (Finset.mem_univ _) h
  · intro a _ ha
    refine Finset.sum_eq_zero fun b _ => ?_
    rw [h, sel_if, if_neg fun e => ha (pos_inj (e.trans hp.symm)).1]
  · exact fun h => absurd (Finset.mem_univ _) h

section total
variable {hot : S24x512.Idx → BitVec 1} {y : S24x512.Idx → EReal} {p : ℕ} {r : Fin 24} {l : Fin 512} (hp : pos r l = p)
    (h : ∀ r l, hot (ix2 r l) = BitVec.ofBool (decide (pos r l = p)))
include hp h
theorem total_x1 : (k0_pay27 (F := Ideal) hot y : EReal) = y (ix2 r l) := by
  unfold k0_pay27
  pointwise
  exact hot_total hp h
theorem total_y1 : (k0_pay28 (F := Ideal) hot y : EReal) = y (ix2 r l) := by
  unfold k0_pay28
  pointwise
  exact hot_total hp h
theorem total_x2 : (k0_pay29 (F := Ideal) hot y : EReal) = y (ix2 r l) := by
  unfold k0_pay29
  pointwise
  exact hot_total hp h
theorem total_y2 : (k0_pay30 (F := Ideal) hot y : EReal) = y (ix2 r l) := by
  unfold k0_pay30
  pointwise
  exact hot_total hp h
end total

/-- The result rows after a round. -/
theorem slot_row {v45 : S24x512.Idx → BitVec 32} (hw : ∀ (c : Fin 24) (l : Fin 512), v45 (ix2 c l) = BitVec.ofNat 32 l.val)
    {t : ℕ} (ht : t < 300) (l : Fin 512) :
    (k0_pay31 v45 (BitVec.ofNat 32 t) : S1x512.Idx → BitVec 1) (ix2 0 l) = BitVec.ofBool (decide (l.val = t)) := by
  unfold k0_pay31
  pointwise
  rw [hw]
  have := l.isLt
  exact WordCmp.cmpi_eq_ofNat (by omega) (by omega)

theorem out_score {v45 : S24x512.Idx → BitVec 32} (hw : ∀ (c : Fin 24) (l : Fin 512), v45 (ix2 c l) = BitVec.ofNat 32 l.val)
    {t : ℕ} (ht : t < 300) (y : EReal) (v140 : S1x512.Idx → EReal) (l : Fin 512) :
    (k0_pay32 (F := Ideal) v45 (BitVec.ofNat 32 t) y v140 : S1x512.Idx → EReal) (ix2 0 l) = if l.val = t then y else v140 (ix2 0 l) := by
  unfold k0_pay32
  pointwise
  rw [slot_row hw ht, sel_if]

theorem out_label {v45 : S24x512.Idx → BitVec 32} (hw : ∀ (c : Fin 24) (l : Fin 512), v45 (ix2 c l) = BitVec.ofNat 32 l.val)
    {t : ℕ} (ht : t < 300) (y : BitVec 32) (v146 : S1x512.Idx → BitVec 32) (l : Fin 512) :
    (k0_pay48 (F := Ideal) (k0_pay31 v45 (BitVec.ofNat 32 t)) v146 (k0_pay33 y) : S1x512.Idx → BitVec 32) (ix2 0 l) = if l.val = t then y else v146 (ix2 0 l) := by
  unfold k0_pay48 k0_pay33
  pointwise
  rw [slot_row hw ht, sel_if]

theorem out_box (z : Fin 4 → EReal) (k : Fin 4) :
    (k0_pay49 (F := Ideal) (z 0) (z 1) (z 2) (z 3) : S1x4.Idx → EReal) (ix2 0 k) = z k := by
  unfold k0_pay49
  pointwise
  fin_cases k <;> rfl

theorem first_places (r : Fin 24) (l : Fin 512) : (k0_pay47 : S24x512.Idx → BitVec 32) (ix2 r l) = BitVec.ofNat 32 (pos r l) := by
  unfold k0_pay47
  pointwise
  show BitVec.ofNat 32 r.val * BitVec.ofNat 32 512 + BitVec.ofNat 32 l.val = _
  rw [← BitVec.ofNat_mul, ← BitVec.ofNat_add]
  rfl

end Cert.KernelIdeal.Own
-- ==== Proof.Steps.lean ====
/-
  Single steps of a body that only loads and stores: what a load reads, and what a memory reads after a store.
-/
module

public import proofs.«01_k».proof.Proof.Runs
public import Idealize.ShloMosaic.Lib.WritesUnit
public import Idealize.ShloMosaic.Lib.VecWindow
public import Idealize.ShloMosaic.Lib.Pipeline.Value

@[expose] public section

noncomputable section

namespace Nms

open Idealize.ShloMosaic Idealize.ShloMosaic.TcCoe
open Idealize.SL.Sem

variable {nD : ℕ} {τ : Topo} {sig : RefSig} {Val : EltTy → Type} {Λ : Labels} {S : Finset (Ref sig .tc)} {α : Type}

/-- What a memory holds in the given contents. -/
def rd {cs : CoreSpace} {s : Shape} {e : EltTy} (m : Memref sig .tc cs s e) (h : Heap sig Val) : s.Idx → Val e := m.view.read Val (h m.view.ref)

/-- The contents after an unmasked store. -/
def put {cs : CoreSpace} {s : Shape} {e : EltTy} (m : Memref sig .tc cs s e) (r : Rect s) (w : r.shape.Idx → Val e) (h : Heap sig Val) : Heap sig Val :=
  Function.update h m.view.ref ((m.access r).write Val (h m.view.ref) w Finset.univ)

section
variable {cs cs' : CoreSpace} {s s' : Shape} {e e' : EltTy}

theorem runs_load (m : Memref sig .tc cs s e) (r : LoadRect s) (hl : m.view.LoadsAt r)
    (k : (r.shape.Idx → Val e) → Prog (TpuEff nD τ sig Val Λ .tc) α) (h : Heap sig Val) (Q : α → Heap sig Val → Prop) (hm : m.view.ref ∈ S)
    {X : r.shape.Idx → Val e} (hX : m.view.readAt Val r (h m.view.ref) = X) (H : Runs S (k X) h Q) :
    Runs S (Prog.lift (.load m r hl) >>= k) h Q := by
  subst hX; exact ⟨hm, H⟩

/-- A load of a whole memory. -/
theorem runs_load_full (m : Memref sig .tc cs s e) (off : Fin s.rank → ℕ) (inb : ∀ a, off a + s.size a ≤ s.size a)
    (hl : m.view.LoadsAt (Rect.unit off s.size inb).toLoadRect)
    (k : (s.Idx → Val e) → Prog (TpuEff nD τ sig Val Λ .tc) α) (h : Heap sig Val) (Q : α → Heap sig Val → Prop) (hm : m.view.ref ∈ S)
    (ho : off = fun _ => 0) {X : s.Idx → Val e} (hX : rd m h = X) (H : Runs S (k X) h Q) :
    Runs S (Prog.lift (.load m (Rect.unit off s.size inb).toLoadRect hl) >>= k) h Q := by
  refine ⟨hm, ?_⟩
  have e : m.view.readAt Val (Rect.unit off s.size inb).toLoadRect (h m.view.ref) = X :=
    (View.readAt_eq_ld m.view _ (Rect.unit off s.size inb)).trans ((View.ld_unit_zero ho inb _).trans hX)
  have H' : Runs S (k (m.view.readAt Val (Rect.unit off s.size inb).toLoadRect (h m.view.ref))) h Q := by rw [e]; exact H
  exact H'

theorem runs_store (m : Memref sig .tc cs s e) (r : Rect s) (w : r.shape.Idx → Val e) (hs : (m.access r).Stores Finset.univ)
    (hx : (Finset.univ : Finset r.shape.Idx) = Finset.univ ∨ ∀ a, r.stride a = 1)
    (k : PUnit → Prog (TpuEff nD τ sig Val Λ .tc) α) (h : Heap sig Val) (Q : α → Heap sig Val → Prop) (hm : m.view.ref ∈ S)
    (H : Runs S (k ⟨⟩) (put m r w h) Q) :
    Runs S (Prog.lift (.store m r w Finset.univ hs hx) >>= k) h Q := ⟨hm, H⟩

/-- Another memory is not changed by a store. -/
theorem rd_put_ne {m : Memref sig .tc cs s e} {m' : Memref sig .tc cs' s' e'} (hne : m.view.ref ≠ m'.view.ref) {r : Rect s'}
    {w : r.shape.Idx → Val e'} {h : Heap sig Val} : rd m (put m' r w h) = rd m h := by
  unfold rd put
  rw [Function.update_of_ne hne]

/-- A store over a whole memory. -/
theorem rd_put_full {m : Memref sig .tc cs s e} {off : Fin s.rank → ℕ} {inb : ∀ a, off a + s.size a ≤ s.size a} {w : s.Idx → Val e}
    {h : Heap sig Val} : rd m (put m (Rect.unit off s.size inb) w h) = w := by
  unfold rd put
  rw [Function.update_self]
  exact View.read_writes_full m.view (h m.view.ref) inb w []

/-- Inside and outside the stored part. -/
theorem rd_put_mem {m : Memref sig .tc cs s e} {off size : Fin s.rank → ℕ} {inb : ∀ a, off a + size a ≤ s.size a}
    {w : (Rect.unit off size inb).shape.Idx → Val e} {h : Heap sig Val} (y : s.Idx) (x : (Rect.unit off size inb).shape.Idx)
    (hx : ∀ a, (y a).val = off a + (x a).val) : rd m (put m (Rect.unit off size inb) w h) y = w x := by
  unfold rd put
  rw [Function.update_self]
  exact View.read_writes_cons_unit_of_mem m.view (h m.view.ref) inb w [] y x rfl hx

theorem rd_put_not {m : Memref sig .tc cs s e} {off size : Fin s.rank → ℕ} {inb : ∀ a, off a + size a ≤ s.size a}
    {w : (Rect.unit off size inb).shape.Idx → Val e} {h : Heap sig Val} (y : s.Idx) (a : Fin s.rank)
    (ha : (y a).val < off a ∨ off a + size a ≤ (y a).val) : rd m (put m (Rect.unit off size inb) w h) y = rd m h y := by
  unfold rd put
  rw [Function.update_self]
  exact View.read_writes_cons_unit_of_not_mem m.view (h m.view.ref) inb w [] y rfl a ha

/-- An entry of a load of a part. -/
theorem readAt_part (m : Memref sig .tc cs s e) {off size : Fin s.rank → ℕ} {inb : ∀ a, off a + size a ≤ s.size a} (h : Heap sig Val)
    (y : s.Idx) (x : (Rect.unit off size inb).shape.Idx) (hx : ∀ a, (y a).val = off a + (x a).val) :
    m.view.readAt Val (Rect.unit off size inb).toLoadRect (h m.view.ref) x = rd m h y := by
  have hy : (Rect.unit off size inb).emb x = y := funext fun a => Fin.ext (by
    show off a + 1 * (x a).val = (y a).val
    rw [hx a, Nat.one_mul])
  rw [← hy]
  rfl

end

/-- Labels tell buffers apart. -/
theorem ne_of {L : Ref sig .tc → ℕ} {a b : Ref sig .tc} {i j : ℕ} (ha : L a = i) (hb : L b = j) (h : i ≠ j) : a ≠ b := fun e => by
  subst e; exact h (ha.symm.trans hb)

end Nms
-- ==== Proof.KernelTrip1.lean ====
/-
  One trip of the suppression loop.
-/
module

public import proofs.«01_k».proof.Proof.KernelPay
public import proofs.«01_k».proof.Proof.Steps

@[expose] public section

set_option maxRecDepth 65536

noncomputable section

namespace Cert.KernelIdeal.Own

open Cert.KernelIdeal Cert.KernelIdeal.Gen Nms
open Idealize.ShloMosaic Idealize.ShloMosaic.TcCoe
open Idealize.SL.Sem

theorem zero2 : (![0, 0] : Fin 2 → ℕ) = fun _ => 0 := by funext a; fin_cases a <;> rfl
theorem zero3 : (![0, 0, 0] : Fin 3 → ℕ) = fun _ => 0 := by funext a; fin_cases a <;> rfl

variable {S : Finset (Ref sig .tc)}

variable (i : grid0.Coords) (arg1 : Memref sig .tc .vmem S1x24x5120 .f32) (harg1 : arg1.IsWhole) (arg2 : Memref sig .tc .vmem S1x8x5120 .f32) (harg2 : arg2.IsWhole) (arg3 : Memref sig .tc .vmem S1x300x4 .f32) (harg3 : arg3.IsWhole) (arg4 : Memref sig .tc .vmem S1x1x300 .f32) (harg4 : arg4.IsWhole) (arg5 : Memref sig .tc .vmem S1x1x300 .i32) (harg5 : arg5.IsWhole) (arg6 : Memref sig .tc .vmem S24x5120 .f32) (harg6 : arg6.IsWhole) (arg7 : Memref sig .tc .vmem S24x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x512 .f32) (harg10 : arg10.IsWhole) (arg11 : Memref sig .tc .vmem S24x512 .f32) (harg11 : arg11.IsWhole) (arg12 : Memref sig .tc .vmem S24x512 .i32) (harg12 : arg12.IsWhole) (arg13 : Memref sig .tc .vmem S8x512 .f32) (harg13 : arg13.IsWhole) (arg14 : Memref sig .tc .vmem S8x512 .i32) (harg14 : arg14.IsWhole) (arg15 : Memref sig .tc .vmem S512x8 .f32) (harg15 : arg15.IsWhole)
  (marg1 : arg1.view.ref ∈ S) (marg2 : arg2.view.ref ∈ S) (marg3 : arg3.view.ref ∈ S) (marg4 : arg4.view.ref ∈ S) (marg5 : arg5.view.ref ∈ S) (marg6 : arg6.view.ref ∈ S) (marg7 : arg7.view.ref ∈ S) (marg8 : arg8.view.ref ∈ S) (marg9 : arg9.view.ref ∈ S) (marg10 : arg10.view.ref ∈ S) (marg11 : arg11.view.ref ∈ S) (marg12 : arg12.view.ref ∈ S) (marg13 : arg13.view.ref ∈ S) (marg14 : arg14.view.ref ∈ S) (marg15 : arg15.view.ref ∈ S)
  {L : Ref sig .tc → ℕ} (l1 : L arg1.view.ref = 1) (l2 : L arg2.view.ref = 2) (l3 : L arg3.view.ref = 3) (l4 : L arg4.view.ref = 4) (l5 : L arg5.view.ref = 5) (l6 : L arg6.view.ref = 6) (l7 : L arg7.view.ref = 7) (l8 : L arg8.view.ref = 8) (l9 : L arg9.view.ref = 9) (l10 : L arg10.view.ref = 10) (l11 : L arg11.view.ref = 11) (l12 : L arg12.view.ref = 12) (l13 : L arg13.view.ref = 13) (l14 : L arg14.view.ref = 14) (l15 : L arg15.view.ref = 15)

/-- The memories before round `t` of the suppression loop: `x` the boxes, `σ` the classes' first scores. -/
structure Kept (x : Fin 4 → ℕ → EReal) (σ : ℕ → ℕ → EReal) (X1 : S1x24x5120.Idx → EReal) (X2 : S1x8x5120.Idx → EReal) (t : ℕ) (h : Heap sig (Elt Ideal)) : Prop where
  i1 : rd arg1 h = X1
  i2 : rd arg2 h = X2
  s : ∀ (c : Fin 24) (j : Fin 5120), (rd arg6 h : S24x5120.Idx → EReal) (ix2 c j) = nms x (σ c.val) t j.val
  r : ∀ (c : Fin 24) (l : Fin 512), (rd arg7 h : S24x512.Idx → EReal) (ix2 c l) = if l.val < t then score x (σ c.val) l.val else ⊥
  x1 : ∀ (c : Fin 24) (l : Fin 512), (rd arg8 h : S24x512.Idx → EReal) (ix2 c l) = if l.val < t ∧ score x (σ c.val) l.val ≠ ⊥ then x 0 (place x (σ c.val) l.val) else 0
  y1 : ∀ (c : Fin 24) (l : Fin 512), (rd arg9 h : S24x512.Idx → EReal) (ix2 c l) = if l.val < t ∧ score x (σ c.val) l.val ≠ ⊥ then x 1 (place x (σ c.val) l.val) else 0
  x2 : ∀ (c : Fin 24) (l : Fin 512), (rd arg10 h : S24x512.Idx → EReal) (ix2 c l) = if l.val < t ∧ score x (σ c.val) l.val ≠ ⊥ then x 2 (place x (σ c.val) l.val) else 0
  y2 : ∀ (c : Fin 24) (l : Fin 512), (rd arg11 h : S24x512.Idx → EReal) (ix2 c l) = if l.val < t ∧ score x (σ c.val) l.val ≠ ⊥ then x 3 (place x (σ c.val) l.val) else 0

/-- A slot of the kept scores after a round. -/
theorem next_score {f : ℕ → EReal} {l t : ℕ} {y : EReal} (hy : y = f t) :
    (if l = t then y else if l < t then f l else ⊥) = if l < t + 1 then f l else ⊥ := by
  subst hy
  by_cases h : l = t
  · subst h; rw [if_pos rfl, if_pos (by omega)]
  · rw [if_neg h]; exact if_congr (by omega) rfl rfl

/-- A slot of a kept coordinate after a round. -/
theorem next_coord {f g : ℕ → EReal} {l t : ℕ} {y z : EReal} (hy : y = f t) (hz : z = g t) :
    (if l = t then (if y ≠ ⊥ then z else 0) else if l < t ∧ f l ≠ ⊥ then g l else 0) = if l < t + 1 ∧ f l ≠ ⊥ then g l else 0 := by
  subst hy; subst hz
  by_cases h : l = t
  · subst h; rw [if_pos rfl]; exact if_congr (by simp) rfl rfl
  · rw [if_neg h]; exact if_congr (and_congr_left fun _ => by omega) rfl rfl

include marg1 marg2 marg3 marg4 marg5 marg6 marg7 marg8 marg9 marg10 marg11 marg12 marg13 marg14 marg15 l1 l2 l3 l4 l5 l6 l7 l8 l9 l10 l11 l12 l13 l14 l15

set_option maxHeartbeats 4000000 in
/-- A trip of the loop is a round. -/
theorem runs_trip1 {v1 v3 v5 v7 v14 : S1x5120.Idx → EReal} {v28 v29 : S24x512.Idx → EReal} {v44 : S24x5120.Idx → BitVec 32} {v45 : S24x512.Idx → BitVec 32}
    {x : Fin 4 → ℕ → EReal} {σ : ℕ → ℕ → EReal} {X1 : S1x24x5120.Idx → EReal} {X2 : S1x8x5120.Idx → EReal}
    (w44 : ∀ (c : Fin 24) (j : Fin 5120), v44 (ix2 c j) = BitVec.ofNat 32 j.val) (w45 : ∀ (c : Fin 24) (l : Fin 512), v45 (ix2 c l) = BitVec.ofNat 32 l.val)
    (h1 : ∀ j : Fin 5120, v1 (ix2 0 j) = x 0 j.val) (h3 : ∀ j : Fin 5120, v3 (ix2 0 j) = x 1 j.val)
    (h5 : ∀ j : Fin 5120, v5 (ix2 0 j) = x 2 j.val) (h7 : ∀ j : Fin 5120, v7 (ix2 0 j) = x 3 j.val)
    (h14 : ∀ j : Fin 5120, v14 (ix2 0 j) = area x j.val) (hσ : ∀ c q, 5120 ≤ q → σ c q = ⊥)
    (t : Fin k0_t1_loop.trips) (ht : t.val < 300) (h : Heap sig (Elt Ideal)) (hK : Kept arg1 arg2 arg6 arg7 arg8 arg9 arg10 arg11 x σ X1 X2 t.val h) :
    Runs S (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v14 v28 v29 v44 v45 t ()) h
      (fun _ h' => Kept arg1 arg2 arg6 arg7 arg8 arg9 arg10 arg11 x σ X1 X2 (t.val + 1) h') := by
  have hiv : Scf.iv 0#32 1#32 t = BitVec.ofNat 32 t.val := by
    unfold Scf.iv
    rw [BitVec.zero_add]
    exact BitVec.mul_one _
  have hb : ∀ (c : Fin 24) q, 5120 ≤ q → nms x (σ c.val) t.val q = ⊥ := fun c q hq => nms_bot _ _ (hσ _ _ hq)
  unfold k0_t1_body
  rw [k0_part1_eq_skeleton, k0_part2_eq_skeleton, k0_part3_eq_skeleton]
  refine (runs_bind _ _ _ _).mpr ?_
  unfold k0_part1_skel
  refine runs_load_full arg6 _ _ _ _ _ _ marg6 zero2 rfl ?_
  refine (runs_bind _ _ _ _).mpr ?_
  unfold k0_part2_skel
  refine runs_load_full arg6 _ _ _ _ _ _ marg6 zero2 rfl ?_
  refine runs_store arg6 _ _ _ _ _ _ _ marg6 ?_
  refine runs_load_full arg7 _ _ _ _ _ _ marg7 zero2 (rd_put_ne (ne_of l7 l6 (by decide))) ?_
  refine runs_load_full arg7 _ _ _ _ _ _ marg7 zero2 rfl ?_
  refine (runs_bind _ _ _ _).mpr ?_
  unfold k0_part3_skel
  refine runs_store arg7 _ _ _ _ _ _ _ marg7 ?_
  refine runs_load_full arg8 _ _ _ _ _ _ marg8 zero2 ((rd_put_ne (ne_of l8 l7 (by decide))).trans (rd_put_ne (ne_of l8 l6 (by decide)))) ?_
  refine runs_load_full arg8 _ _ _ _ _ _ marg8 zero2 rfl ?_
  refine runs_store arg8 _ _ _ _ _ _ _ marg8 ?_
  refine runs_load_full arg9 _ _ _ _ _ _ marg9 zero2 ((rd_put_ne (ne_of l9 l8 (by decide))).trans ((rd_put_ne (ne_of l9 l7 (by decide))).trans (rd_put_ne (ne_of l9 l6 (by decide))))) ?_
  refine runs_load_full arg9 _ _ _ _ _ _ marg9 zero2 rfl ?_
  refine runs_store arg9 _ _ _ _ _ _ _ marg9 ?_
  refine runs_load_full arg10 _ _ _ _ _ _ marg10 zero2 ((rd_put_ne (ne_of l10 l9 (by decide))).trans ((rd_put_ne (ne_of l10 l8 (by decide))).trans ((rd_put_ne (ne_of l10 l7 (by decide))).trans (rd_put_ne (ne_of l10 l6 (by decide)))))) ?_
  refine runs_load_full arg10 _ _ _ _ _ _ marg10 zero2 rfl ?_
  refine runs_store arg10 _ _ _ _ _ _ _ marg10 ?_
  refine runs_load_full arg11 _ _ _ _ _ _ marg11 zero2 ((rd_put_ne (ne_of l11 l10 (by decide))).trans ((rd_put_ne (ne_of l11 l9 (by decide))).trans ((rd_put_ne (ne_of l11 l8 (by decide))).trans ((rd_put_ne (ne_of l11 l7 (by decide))).trans (rd_put_ne (ne_of l11 l6 (by decide))))))) ?_
  refine runs_load_full arg11 _ _ _ _ _ _ marg11 zero2 rfl ?_
  refine runs_store arg11 _ _ _ _ _ _ _ marg11 ?_
  rw [hiv]
  refine { i1 := ?_, i2 := ?_, s := fun c j => ?_, r := fun c l => ?_, x1 := fun c l => ?_, y1 := fun c l => ?_, x2 := fun c l => ?_, y2 := fun c l => ?_ }
  · exact ((rd_put_ne (ne_of l1 l11 (by decide))).trans ((rd_put_ne (ne_of l1 l10 (by decide))).trans ((rd_put_ne (ne_of l1 l9 (by decide))).trans ((rd_put_ne (ne_of l1 l8 (by decide))).trans ((rd_put_ne (ne_of l1 l7 (by decide))).trans ((rd_put_ne (ne_of l1 l6 (by decide))).trans (hK.i1)))))))
  · exact ((rd_put_ne (ne_of l2 l11 (by decide))).trans ((rd_put_ne (ne_of l2 l10 (by decide))).trans ((rd_put_ne (ne_of l2 l9 (by decide))).trans ((rd_put_ne (ne_of l2 l8 (by decide))).trans ((rd_put_ne (ne_of l2 l7 (by decide))).trans ((rd_put_ne (ne_of l2 l6 (by decide))).trans (hK.i2)))))))
  · refine (congrFun ((rd_put_ne (ne_of l6 l11 (by decide))).trans ((rd_put_ne (ne_of l6 l10 (by decide))).trans ((rd_put_ne (ne_of l6 l9 (by decide))).trans ((rd_put_ne (ne_of l6 l8 (by decide))).trans ((rd_put_ne (ne_of l6 l7 (by decide))).trans (rd_put_full)))))) (ix2 c j)).trans ?_
    exact row_strike (w44 c) (hK.s c) (hb c) h1 h3 h5 h7 h14 j
  · refine (congrFun ((rd_put_ne (ne_of l7 l11 (by decide))).trans ((rd_put_ne (ne_of l7 l10 (by decide))).trans ((rd_put_ne (ne_of l7 l9 (by decide))).trans ((rd_put_ne (ne_of l7 l8 (by decide))).trans (rd_put_full))))) (ix2 c l)).trans ?_
    refine (rec_score w45 ht (row_best (hK.s c) (hb c)) (row_keep (hK.s c) (hb c)) l).trans ?_
    rw [hK.r]
    exact next_score (f := score x (σ c.val)) rfl
  · refine (congrFun ((rd_put_ne (ne_of l8 l11 (by decide))).trans ((rd_put_ne (ne_of l8 l10 (by decide))).trans ((rd_put_ne (ne_of l8 l9 (by decide))).trans (rd_put_full)))) (ix2 c l)).trans ?_
    refine (rec_x1 w45 ht (row_x1 (w44 c) (hK.s c) (hb c) h1) (row_keep (hK.s c) (hb c)) l).trans ?_
    rw [hK.x1]
    exact next_coord (f := score x (σ c.val)) (g := fun l => x 0 (place x (σ c.val) l)) rfl rfl
  · refine (congrFun ((rd_put_ne (ne_of l9 l11 (by decide))).trans ((rd_put_ne (ne_of l9 l10 (by decide))).trans (rd_put_full))) (ix2 c l)).trans ?_
    refine (rec_y1 w45 ht (row_y1 (w44 c) (hK.s c) (hb c) h3) (row_keep (hK.s c) (hb c)) l).trans ?_
    rw [hK.y1]
    exact next_coord (f := score x (σ c.val)) (g := fun l => x 1 (place x (σ c.val) l)) rfl rfl
  · refine (congrFun ((rd_put_ne (ne_of l10 l11 (by decide))).trans (rd_put_full)) (ix2 c l)).trans ?_
    refine (rec_x2 w45 ht (row_x2 (w44 c) (hK.s c) (hb c) h5) (row_keep (hK.s c) (hb c)) l).trans ?_
    rw [hK.x2]
    exact next_coord (f := score x (σ c.val)) (g := fun l => x 2 (place x (σ c.val) l)) rfl rfl
  · refine (congrFun rd_put_full (ix2 c l)).trans ?_
    refine (rec_y2 w45 ht (row_y2 (w44 c) (hK.s c) (hb c) h7) (row_keep (hK.s c) (hb c)) l).trans ?_
    rw [hK.y2]
    exact next_coord (f := score x (σ c.val)) (g := fun l => x 3 (place x (σ c.val) l)) rfl rfl

end Cert.KernelIdeal.Own
-- ==== Proof.KernelTrip2.lean ====
/-
  One trip of the merge loop.
-/
module

public import proofs.«01_k».proof.Proof.KernelTrip1

@[expose] public section

set_option maxRecDepth 65536

noncomputable section

namespace Cert.KernelIdeal.Own

open Cert.KernelIdeal Cert.KernelIdeal.Gen Nms
open Idealize.ShloMosaic Idealize.ShloMosaic.TcCoe
open Idealize.SL.Sem

variable {S : Finset (Ref sig .tc)}

variable (i : grid0.Coords) (arg1 : Memref sig .tc .vmem S1x24x5120 .f32) (harg1 : arg1.IsWhole) (arg2 : Memref sig .tc .vmem S1x8x5120 .f32) (harg2 : arg2.IsWhole) (arg3 : Memref sig .tc .vmem S1x300x4 .f32) (harg3 : arg3.IsWhole) (arg4 : Memref sig .tc .vmem S1x1x300 .f32) (harg4 : arg4.IsWhole) (arg5 : Memref sig .tc .vmem S1x1x300 .i32) (harg5 : arg5.IsWhole) (arg6 : Memref sig .tc .vmem S24x5120 .f32) (harg6 : arg6.IsWhole) (arg7 : Memref sig .tc .vmem S24x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x512 .f32) (harg10 : arg10.IsWhole) (arg11 : Memref sig .tc .vmem S24x512 .f32) (harg11 : arg11.IsWhole) (arg12 : Memref sig .tc .vmem S24x512 .i32) (harg12 : arg12.IsWhole) (arg13 : Memref sig .tc .vmem S8x512 .f32) (harg13 : arg13.IsWhole) (arg14 : Memref sig .tc .vmem S8x512 .i32) (harg14 : arg14.IsWhole) (arg15 : Memref sig .tc .vmem S512x8 .f32) (harg15 : arg15.IsWhole)
  (marg1 : arg1.view.ref ∈ S) (marg2 : arg2.view.ref ∈ S) (marg3 : arg3.view.ref ∈ S) (marg4 : arg4.view.ref ∈ S) (marg5 : arg5.view.ref ∈ S) (marg6 : arg6.view.ref ∈ S) (marg7 : arg7.view.ref ∈ S) (marg8 : arg8.view.ref ∈ S) (marg9 : arg9.view.ref ∈ S) (marg10 : arg10.view.ref ∈ S) (marg11 : arg11.view.ref ∈ S) (marg12 : arg12.view.ref ∈ S) (marg13 : arg13.view.ref ∈ S) (marg14 : arg14.view.ref ∈ S) (marg15 : arg15.view.ref ∈ S)
  {L : Ref sig .tc → ℕ} (l1 : L arg1.view.ref = 1) (l2 : L arg2.view.ref = 2) (l3 : L arg3.view.ref = 3) (l4 : L arg4.view.ref = 4) (l5 : L arg5.view.ref = 5) (l6 : L arg6.view.ref = 6) (l7 : L arg7.view.ref = 7) (l8 : L arg8.view.ref = 8) (l9 : L arg9.view.ref = 9) (l10 : L arg10.view.ref = 10) (l11 : L arg11.view.ref = 11) (l12 : L arg12.view.ref = 12) (l13 : L arg13.view.ref = 13) (l14 : L arg14.view.ref = 14) (l15 : L arg15.view.ref = 15)

/-- What the label of position `p` reads. -/
def lab (v : ℕ → EReal) (p : ℕ) : BitVec 32 := if v p ≠ ⊥ then BitVec.ofNat 32 (p / 512) else 4294967295#32

theorem four_le : 4 ≤ 8 := by decide

/-- The memories before round `t` of the merge: `v` the scores by position, `z` the coordinates by position. -/
structure Merged (v : ℕ → EReal) (z : Fin 4 → ℕ → EReal) (X1 : S1x24x5120.Idx → EReal) (X2 : S1x8x5120.Idx → EReal) (t : ℕ) (h : Heap sig (Elt Ideal)) : Prop where
  i1 : rd arg1 h = X1
  i2 : rd arg2 h = X2
  r : ∀ (c : Fin 24) (l : Fin 512), (rd arg7 h : S24x512.Idx → EReal) (ix2 c l) = v (pos c l)
  x1 : ∀ (c : Fin 24) (l : Fin 512), (rd arg8 h : S24x512.Idx → EReal) (ix2 c l) = z 0 (pos c l)
  y1 : ∀ (c : Fin 24) (l : Fin 512), (rd arg9 h : S24x512.Idx → EReal) (ix2 c l) = z 1 (pos c l)
  x2 : ∀ (c : Fin 24) (l : Fin 512), (rd arg10 h : S24x512.Idx → EReal) (ix2 c l) = z 2 (pos c l)
  y2 : ∀ (c : Fin 24) (l : Fin 512), (rd arg11 h : S24x512.Idx → EReal) (ix2 c l) = z 3 (pos c l)
  p : ∀ (c : Fin 24) (l : Fin 512), (rd arg12 h : S24x512.Idx → BitVec 32) (ix2 c l)
    = BitVec.ofNat 32 (if pos c l ∈ taken v 12288 t then 1073741824 else pos c l)
  os : ∀ l : Fin 512, l.val < t → (rd arg13 h : S8x512.Idx → EReal) (ix2 0 l) = v (pick v 12288 l.val)
  ol : ∀ l : Fin 512, l.val < t → (rd arg14 h : S8x512.Idx → BitVec 32) (ix2 0 l) = lab v (pick v 12288 l.val)
  ob : ∀ (l : Fin 512) (k : Fin 4), l.val < t → (rd arg15 h : S512x8.Idx → EReal) (ix2 l (Fin.castLE four_le k)) = z k (pick v 12288 l.val)

theorem next_out {α : Type} {f : ℕ → α} {l t : ℕ} {y z : α} (hy : y = f t) (hz : l < t → z = f l) (hl : l < t + 1) :
    (if l = t then y else z) = f l := by
  by_cases h : l = t
  · rw [if_pos h, hy, h]
  · rw [if_neg h]; exact hz (by omega)

theorem off1_eq (t : Fin k0_t2_loop.trips) (ht : t.val < 300) : k0_off1 t = ![t.val, 0] := by
  unfold k0_off1
  have hiv : Scf.iv 0#32 1#32 t = BitVec.ofNat 32 t.val := by
    unfold Scf.iv
    rw [BitVec.zero_add]
    exact BitVec.mul_one _
  have hn : (BitVec.ofNat 32 t.val).toNat = t.val := WordCmp.toNat_ofNat_of_lt (by omega)
  show ![BitVec.toNat (Scf.iv 0#32 1#32 t), 0] = _
  rw [hiv, hn]

section label
variable {P : S24x512.Idx → BitVec 32} {R : S24x512.Idx → EReal} {v : ℕ → EReal} {T : Finset ℕ} {p : ℕ}

theorem label_word (hP : ∀ r l, P (ix2 r l) = BitVec.ofNat 32 (if pos r l ∈ T then 1073741824 else pos r l)) (hR : ∀ r l, R (ix2 r l) = v (pos r l))
    (hp : IsPick v 12288 T p) {y : EReal} (hy : y = v p) {w : BitVec 32} (hw : w = BitVec.ofNat 32 p) :
    Scalar.select (Scalar.cmpf (F := Ideal) (φ := .f32) .ogt y (Scalar.ofBits .f32 0xFF800000#32))
      (Scalar.select (Scalar.andi (Scalar.cmpi .ne (Scalar.subi (Scalar.extui (Scalar.cmpi .sgt w 0#32)) (Scalar.extui (Scalar.cmpi .slt w 0#32)))
        (Scalar.subi (Scalar.extui (Scalar.cmpi .sgt 512#32 0#32)) (Scalar.extui (Scalar.cmpi .slt 512#32 0#32))))
      (Scalar.cmpi .ne (Scalar.remsi w 512#32) 0#32)) (Scalar.subi (Scalar.divsi w 512#32) 1#32)
      (Scalar.divsi w 512#32)) 4294967295#32 = lab v p := by
  subst hy; subst hw
  rw [class_word p hp.1]
  have e : Scalar.cmpf (F := Ideal) (φ := .f32) .ogt (v p) (Scalar.ofBits .f32 0xFF800000#32) = BitVec.ofBool (decide (v p ≠ ⊥)) := by
    show BitVec.ofBool (decide (Ideal.ofBits FTy.f32 4286578688#32 < v p)) = _
    rw [ninf]
    congr 1
    exact decide_eq_decide.mpr bot_lt_iff_ne_bot
  rw [e, sel_if]
  rfl

end label

theorem out_box4 {a b c d : EReal} (z : Fin 4 → EReal) (ha : a = z 0) (hb : b = z 1) (hc : c = z 2) (hd : d = z 3) (k : Fin 4) :
    (k0_pay49 (F := Ideal) a b c d : S1x4.Idx → EReal) (ix2 0 k) = z k := by
  subst ha; subst hb; subst hc; subst hd
  exact out_box z k

include marg1 marg2 marg3 marg4 marg5 marg6 marg7 marg8 marg9 marg10 marg11 marg12 marg13 marg14 marg15 l1 l2 l3 l4 l5 l6 l7 l8 l9 l10 l11 l12 l13 l14 l15

set_option maxHeartbeats 4000000 in
/-- A trip of the loop is a round. -/
theorem runs_trip2 {v1 v3 v5 v7 v14 : S1x5120.Idx → EReal} {v28 v29 : S24x512.Idx → EReal} {v45 : S24x512.Idx → BitVec 32}
    {v : ℕ → EReal} {z : Fin 4 → ℕ → EReal} {X1 : S1x24x5120.Idx → EReal} {X2 : S1x8x5120.Idx → EReal}
    (w45 : ∀ (c : Fin 24) (l : Fin 512), v45 (ix2 c l) = BitVec.ofNat 32 l.val)
    (t : Fin k0_t2_loop.trips) (ht : t.val < 300) (h : Heap sig (Elt Ideal)) (hK : Merged arg1 arg2 arg7 arg8 arg9 arg10 arg11 arg12 arg13 arg14 arg15 v z X1 X2 t.val h) :
    Runs S (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v1 v3 v5 v7 v14 v28 v29 v45 t ()) h
      (fun _ h' => Merged arg1 arg2 arg7 arg8 arg9 arg10 arg11 arg12 arg13 arg14 arg15 v z X1 X2 (t.val + 1) h') := by
  have hiv : Scf.iv 0#32 1#32 t = BitVec.ofNat 32 t.val := by
    unfold Scf.iv
    rw [BitVec.zero_add]
    exact BitVec.mul_one _
  have hp : IsPick v 12288 (taken v 12288 t.val) (pick v 12288 t.val) := isPick_pick v (by omega)
  have hhot := merge_hot hK.p hK.r hp
  obtain ⟨pr, pl, hpos⟩ := pos_surj hp.1
  unfold k0_t2_body
  rw [k0_part4_eq_skeleton, k0_part5_eq_skeleton]
  refine (runs_bind _ _ _ _).mpr ?_
  unfold k0_part4_skel
  refine runs_load_full arg12 _ _ _ _ _ _ marg12 zero2 rfl ?_
  refine runs_load_full arg7 _ _ _ _ _ _ marg7 zero2 rfl ?_
  refine (runs_bind _ _ _ _).mpr ?_
  unfold k0_part5_skel
  refine runs_load_full arg8 _ _ _ _ _ _ marg8 zero2 rfl ?_
  refine runs_load_full arg9 _ _ _ _ _ _ marg9 zero2 rfl ?_
  refine runs_load_full arg10 _ _ _ _ _ _ marg10 zero2 rfl ?_
  refine runs_load_full arg11 _ _ _ _ _ _ marg11 zero2 rfl ?_
  refine runs_load arg13 _ _ _ _ _ marg13 rfl ?_
  refine runs_load arg13 _ _ _ _ _ marg13 rfl ?_
  refine runs_store arg13 _ _ _ _ _ _ _ marg13 ?_
  refine runs_load arg14 _ _ _ _ _ marg14 rfl ?_
  refine runs_load arg14 _ _ _ _ _ marg14 rfl ?_
  refine runs_store arg14 _ _ _ _ _ _ _ marg14 ?_
  refine runs_load arg15 _ _ _ _ _ marg15 rfl ?_
  refine runs_store arg15 _ _ _ _ _ _ _ marg15 ?_
  refine runs_load_full arg12 _ _ _ _ _ _ marg12 zero2 rfl ?_
  refine runs_store arg12 _ _ _ _ _ _ _ marg12 ?_
  rw [hiv]
  refine { i1 := ?_, i2 := ?_, r := fun c l => ?_, x1 := fun c l => ?_, y1 := fun c l => ?_, x2 := fun c l => ?_, y2 := fun c l => ?_, p := fun c l => ?_, os := fun l hl => ?_, ol := fun l hl => ?_, ob := fun l k hl => ?_ }
  · exact ((rd_put_ne (ne_of l1 l12 (by decide))).trans ((rd_put_ne (ne_of l1 l15 (by decide))).trans ((rd_put_ne (ne_of l1 l14 (by decide))).trans ((rd_put_ne (ne_of l1 l13 (by decide))).trans (hK.i1)))))
  · exact ((rd_put_ne (ne_of l2 l12 (by decide))).trans ((rd_put_ne (ne_of l2 l15 (by decide))).trans ((rd_put_ne (ne_of l2 l14 (by decide))).trans ((rd_put_ne (ne_of l2 l13 (by decide))).trans (hK.i2)))))
  · exact (congrFun ((rd_put_ne (ne_of l7 l12 (by decide))).trans ((rd_put_ne (ne_of l7 l15 (by decide))).trans ((rd_put_ne (ne_of l7 l14 (by decide))).trans (rd_put_ne (ne_of l7 l13 (by decide)))))) (ix2 c l)).trans (hK.r c l)
  · exact (congrFun ((rd_put_ne (ne_of l8 l12 (by decide))).trans ((rd_put_ne (ne_of l8 l15 (by decide))).trans ((rd_put_ne (ne_of l8 l14 (by decide))).trans (rd_put_ne (ne_of l8 l13 (by decide)))))) (ix2 c l)).trans (hK.x1 c l)
  · exact (congrFun ((rd_put_ne (ne_of l9 l12 (by decide))).trans ((rd_put_ne (ne_of l9 l15 (by decide))).trans ((rd_put_ne (ne_of l9 l14 (by decide))).trans (rd_put_ne (ne_of l9 l13 (by decide)))))) (ix2 c l)).trans (hK.y1 c l)
  · exact (congrFun ((rd_put_ne (ne_of l10 l12 (by decide))).trans ((rd_put_ne (ne_of l10 l15 (by decide))).trans ((rd_put_ne (ne_of l10 l14 (by decide))).trans (rd_put_ne (ne_of l10 l13 (by decide)))))) (ix2 c l)).trans (hK.x2 c l)
  · exact (congrFun ((rd_put_ne (ne_of l11 l12 (by decide))).trans ((rd_put_ne (ne_of l11 l15 (by decide))).trans ((rd_put_ne (ne_of l11 l14 (by decide))).trans (rd_put_ne (ne_of l11 l13 (by decide)))))) (ix2 c l)).trans (hK.y2 c l)
  · exact (congrFun rd_put_full (ix2 c l)).trans (merge_spent hK.p hK.r hp c l)
  · refine (congrFun ((rd_put_ne (ne_of l13 l12 (by decide))).trans ((rd_put_ne (ne_of l13 l15 (by decide))).trans (rd_put_ne (ne_of l13 l14 (by decide))))) (ix2 0 l)).trans ?_
    refine (rd_put_mem (ix2 0 l) (ix2 0 l) (by intro a; fin_cases a <;> exact (Nat.zero_add _).symm)).trans ?_
    refine (out_score w45 ht _ _ l).trans ?_
    refine next_out (f := fun l => v (pick v 12288 l)) (merge_best hK.p hK.r hp) (fun h' => ?_) hl
    exact (readAt_part arg13 h (ix2 0 l) (ix2 0 l) (by intro a; fin_cases a <;> exact (Nat.zero_add _).symm)).trans (hK.os l h')
  · refine (congrFun ((rd_put_ne (ne_of l14 l12 (by decide))).trans (rd_put_ne (ne_of l14 l15 (by decide)))) (ix2 0 l)).trans ?_
    refine (rd_put_mem (ix2 0 l) (ix2 0 l) (by intro a; fin_cases a <;> exact (Nat.zero_add _).symm)).trans ?_
    refine (out_label w45 ht _ _ l).trans ?_
    refine next_out (f := fun l => lab v (pick v 12288 l)) (label_word hK.p hK.r hp (merge_best hK.p hK.r hp) (merge_least hK.p hK.r hp)) (fun h' => ?_) hl
    refine (readAt_part arg14 _ (ix2 0 l) (ix2 0 l) (by intro a; fin_cases a <;> exact (Nat.zero_add _).symm)).trans ?_
    exact (congrFun (rd_put_ne (ne_of l14 l13 (by decide))) (ix2 0 l)).trans (hK.ol l h')
  · refine (congrFun (rd_put_ne (ne_of l15 l12 (by decide))) _).trans ?_
    have o0 : k0_off1 t 0 = t.val := congrFun (off1_eq t ht) 0
    have o1 : k0_off1 t 1 = 0 := congrFun (off1_eq t ht) 1
    by_cases e : l.val = t.val
    · refine (rd_put_mem _ (ix2 0 k) (by
        intro a; fin_cases a
        · show l.val = k0_off1 t 0 + 0
          rw [o0]; exact e
        · show k.val = k0_off1 t 1 + k.val
          rw [o1]; exact (Nat.zero_add _).symm)).trans ?_
      refine (out_box4 (fun k => z k (pick v 12288 t.val)) ?_ ?_ ?_ ?_ k).trans (by rw [e])
      · exact (total_x1 hpos hhot).trans ((hK.x1 pr pl).trans (by rw [hpos]))
      · exact (total_y1 hpos hhot).trans ((hK.y1 pr pl).trans (by rw [hpos]))
      · exact (total_x2 hpos hhot).trans ((hK.x2 pr pl).trans (by rw [hpos]))
      · exact (total_y2 hpos hhot).trans ((hK.y2 pr pl).trans (by rw [hpos]))
    · refine (rd_put_not _ (0 : Fin 2) (by
        show l.val < k0_off1 t 0 ∨ k0_off1 t 0 + 1 ≤ l.val
        rw [o0]
        omega)).trans ?_
      refine (congrFun ((rd_put_ne (ne_of l15 l14 (by decide))).trans (rd_put_ne (ne_of l15 l13 (by decide)))) _).trans (hK.ob l k (by omega))

end Cert.KernelIdeal.Own
-- ==== Proof.Answer.lean ====
/-
  What the detection leaves, as plain functions of the boxes and the classification: every class's greedy rounds, and the
  best three hundred of an image over its classes.
-/
module

public import proofs.«01_k».proof.Proof.Spec

@[expose] public section

noncomputable section

namespace Nms

open Idealize.ShloMosaic

/-- Coordinate `k` of box `j` of image `b`, zero past the boxes. -/
def coord (A : Fin 4 → Fin 5000 → Fin 4 → EReal) (b : Fin 4) (k : Fin 4) (j : ℕ) : EReal :=
  if h : j < 5000 then A b ⟨j, h⟩ k else 0

/-- The scores class `c` of image `b` starts from: those above the threshold, nothing elsewhere. -/
def first (C : Fin 4 → Fin 5000 → Fin 20 → EReal) (b : Fin 4) (c : ℕ) (j : ℕ) : EReal :=
  if h : j < 5000 ∧ c < 20 then (if low < C b ⟨j, h.1⟩ ⟨c, h.2⟩ then C b ⟨j, h.1⟩ ⟨c, h.2⟩ else ⊥) else ⊥

theorem first_bot {C : Fin 4 → Fin 5000 → Fin 20 → EReal} {b : Fin 4} {c j : ℕ} (h : ¬ (j < 5000 ∧ c < 20)) : first C b c j = ⊥ := by
  unfold first; rw [dif_neg h]

/-- A score that survives is the classification's. -/
theorem first_eq {C : Fin 4 → Fin 5000 → Fin 20 → EReal} {b : Fin 4} {c j : ℕ} (h : first C b c j ≠ ⊥) :
    ∃ h : j < 5000 ∧ c < 20, first C b c j = C b ⟨j, h.1⟩ ⟨c, h.2⟩ := by
  unfold first at h ⊢
  by_cases hj : j < 5000 ∧ c < 20
  · refine ⟨hj, ?_⟩
    rw [dif_pos hj] at h ⊢
    by_cases hl : low < C b ⟨j, hj.1⟩ ⟨c, hj.2⟩
    · rw [if_pos hl]
    · rw [if_neg hl] at h; exact absurd rfl h
  · rw [dif_neg hj] at h; exact absurd rfl h

section
variable (A : Fin 4 → Fin 5000 → Fin 4 → EReal) (C : Fin 4 → Fin 5000 → Fin 20 → EReal) (b : Fin 4)

/-- Round `t` of class `c`: the box taken and its score. -/
def plc (c t : ℕ) : ℕ := place (coord A b) (first C b c) t
def sco (c t : ℕ) : EReal := score (coord A b) (first C b c) t

/-- All classes' rounds in one list, class by class. -/
def flat (q : ℕ) : EReal := sco A C b (q / 300) (q % 300)

theorem sco_bot {c t : ℕ} (h : 20 ≤ c) : sco A C b c t = ⊥ := by
  unfold sco score
  exact nms_bot _ _ (first_bot (by omega))

theorem flat_bot {q : ℕ} (h : 6000 ≤ q) : flat A C b q = ⊥ := sco_bot A C b (by omega)

/-- A round with a score took a box. -/
theorem plc_lt {c t : ℕ} (h : sco A C b c t ≠ ⊥) : plc A C b c t < 5000 ∧ c < 20 := by
  by_contra hn
  apply h
  unfold sco score
  exact nms_bot _ _ (first_bot hn)

/-- The results: the `t`-th best score, its box, its class. -/
def outS (t : ℕ) : EReal := flat A C b (pick (flat A C b) 6000 t)
def outB (t : ℕ) (k : Fin 4) : EReal :=
  if outS A C b t = ⊥ then 0 else coord A b k (plc A C b (pick (flat A C b) 6000 t / 300) (pick (flat A C b) 6000 t % 300))
def outL (t : ℕ) : BitVec 32 :=
  if outS A C b t = ⊥ then -1#32 else BitVec.ofNat 32 (pick (flat A C b) 6000 t / 300)

end

end Nms
-- ==== Proof.KernelAnswer.lean ====
/-
  The merge reads the classes' rounds from rows of 512 places, 300 of them used: its choices are those of the plain list.
-/
module

public import proofs.«01_k».proof.Proof.Answer

@[expose] public section

noncomputable section

namespace Nms

open Idealize.ShloMosaic

section
variable (A : Fin 4 → Fin 5000 → Fin 4 → EReal) (C : Fin 4 → Fin 5000 → Fin 20 → EReal) (b : Fin 4)

/-- The score at position `p` of the rows, and its coordinate `k`. -/
def rowS (p : ℕ) : EReal := if p % 512 < 300 then sco A C b (p / 512) (p % 512) else ⊥
def rowB (k : Fin 4) (p : ℕ) : EReal :=
  if p % 512 < 300 ∧ sco A C b (p / 512) (p % 512) ≠ ⊥ then coord A b k (plc A C b (p / 512) (p % 512)) else 0

theorem rowS_at (p : ℕ) : rowS A C b p = if p % 512 < 300 then sco A C b (p / 512) (p % 512) else ⊥ := rfl

/-- Where entry `q` of the plain list lies in the rows. -/
def inRows (q : ℕ) : ℕ := q / 300 * 512 + q % 300

theorem inRows_div (q : ℕ) : inRows q / 512 = q / 300 := by unfold inRows; omega
theorem inRows_mod (q : ℕ) : inRows q % 512 = q % 300 := by unfold inRows; omega

theorem rows_match (t : ℕ) (ht : t < 300) : rowS A C b (pick (rowS A C b) 12288 t) = outS A C b t
    ∧ (outS A C b t ≠ ⊥ → pick (rowS A C b) 12288 t = inRows (pick (flat A C b) 6000 t)) := by
  refine pick_match inRows (fun q hq => ?_) (fun q hq q' hq' h => ?_) (fun q hq => ?_) (fun p hp h => ?_) t (by omega) (by omega)
  · unfold inRows; omega
  · unfold inRows; omega
  · unfold rowS flat
    rw [inRows_div, inRows_mod, if_pos (by omega)]
  · unfold rowS
    by_cases hm : p % 512 < 300
    · rw [if_pos hm]
      by_cases hc : p / 512 < 20
      · exact absurd (show p = inRows (p / 512 * 300 + p % 512) by unfold inRows; omega) (h _ (by omega))
      · exact sco_bot A C b (by omega)
    · rw [if_neg hm]

theorem rows_label (t : ℕ) (ht : t < 300) :
    (if rowS A C b (pick (rowS A C b) 12288 t) ≠ ⊥ then BitVec.ofNat 32 (pick (rowS A C b) 12288 t / 512) else 4294967295#32)
      = outL A C b t := by
  obtain ⟨h1, h2⟩ := rows_match A C b t ht
  rw [h1]
  unfold outL
  by_cases h : outS A C b t = ⊥
  · rw [if_neg (not_not.mpr h), if_pos h]; rfl
  · rw [if_pos h, if_neg h, h2 h, inRows_div]

theorem rows_box (t : ℕ) (ht : t < 300) (k : Fin 4) : rowB A C b k (pick (rowS A C b) 12288 t) = outB A C b t k := by
  obtain ⟨h1, h2⟩ := rows_match A C b t ht
  unfold outB
  by_cases h : outS A C b t = ⊥
  · rw [if_pos h]
    unfold rowB
    refine if_neg fun hc => ?_
    rw [rowS_at] at h1
    rw [if_pos hc.1, h] at h1
    exact hc.2 h1
  · rw [if_neg h]
    have e := h2 h
    rw [e] at h1 ⊢
    rw [rowS_at] at h1
    unfold rowB
    rw [inRows_div, inRows_mod] at h1 ⊢
    rw [if_pos (show _ % 300 < 300 from Nat.mod_lt _ (by decide))] at h1
    rw [if_pos ⟨Nat.mod_lt _ (by decide), by rw [h1]; exact h⟩]

end

end Nms
-- ==== Proof.KernelStart.lean ====
/-
  What the kernel computes before, between and after its loops, entry by entry.
-/
module

public import proofs.«01_k».proof.Proof.KernelPay
public import proofs.«01_k».proof.Proof.KernelAnswer

@[expose] public section

set_option maxRecDepth 20000

noncomputable section

namespace Cert.KernelIdeal.Own

open Cert.KernelIdeal Cert.KernelIdeal.Gen Nms
open Idealize.ShloMosaic Idealize.ShloMosaic.TcCoe

theorem low_pos : (0 : EReal) ≤ low := by
  unfold low
  simp [Ideal.ofBits, Ideal.ieee]
  positivity

theorem start_x1 (y : S1x1x5120.Idx → EReal) (j : Fin 5120) : (k0_pay34 (F := Ideal) y : S1x5120.Idx → EReal) (ix2 0 j) = y (ix3 0 0 j) := by
  unfold k0_pay34
  pointwise

theorem start_y1 (y : S1x1x5120.Idx → EReal) (j : Fin 5120) : (k0_pay35 (F := Ideal) y : S1x5120.Idx → EReal) (ix2 0 j) = y (ix3 0 0 j) := by
  unfold k0_pay35
  pointwise

theorem start_x2 (y : S1x1x5120.Idx → EReal) (j : Fin 5120) : (k0_pay36 (F := Ideal) y : S1x5120.Idx → EReal) (ix2 0 j) = y (ix3 0 0 j) := by
  unfold k0_pay36
  pointwise

theorem start_y2 (y : S1x1x5120.Idx → EReal) (j : Fin 5120) : (k0_pay37 (F := Ideal) y : S1x5120.Idx → EReal) (ix2 0 j) = y (ix3 0 0 j) := by
  unfold k0_pay37
  pointwise

theorem start_area (x : Fin 4 → ℕ → EReal) (y0 y1 y2 y3 : S1x1x5120.Idx → EReal) (j : Fin 5120) (h0 : y0 (ix3 0 0 j) = x 0 j.val)
    (h1 : y1 (ix3 0 0 j) = x 1 j.val) (h2 : y2 (ix3 0 0 j) = x 2 j.val) (h3 : y3 (ix3 0 0 j) = x 3 j.val) :
    (k0_pay38 (F := Ideal) y0 y1 y2 y3 : S1x5120.Idx → EReal) (ix2 0 j) = area x j.val := by
  unfold k0_pay38
  pointwise
  rw [start_x1, start_y1, start_x2, start_y2, h0, h1, h2, h3]
  rfl

theorem start_scores (y : S1x24x5120.Idx → EReal) (c : Fin 24) (j : Fin 5120) :
    (k0_pay39 (F := Ideal) y : S24x5120.Idx → EReal) (ix2 c j) = if low < y (ix3 0 c j) then y (ix3 0 c j) else ⊥ := by
  unfold k0_pay39
  pointwise
  rw [ninf]
  rfl

theorem start_rec (i : S24x512.Idx) : (k0_pay40 (F := Ideal) : S24x512.Idx → EReal) i = ⊥ := by
  unfold k0_pay40
  pointwise
  exact ninf

theorem start_rec1 (i : S24x512.Idx) : (k0_pay42 (F := Ideal) (k0_pay41 (F := Ideal)) : S24x512.Idx → EReal) i = 0 := by
  unfold k0_pay42 k0_pay41
  pointwise

theorem start_rec2 (i : S24x512.Idx) : (k0_pay43 (F := Ideal) : S24x512.Idx → EReal) i = 0 := by
  unfold k0_pay43
  pointwise

theorem start_rec3 (i : S24x512.Idx) : (k0_pay44 (F := Ideal) : S24x512.Idx → EReal) i = 0 := by
  unfold k0_pay44
  pointwise

theorem start_rec4 (i : S24x512.Idx) : (k0_pay45 (F := Ideal) : S24x512.Idx → EReal) i = 0 := by
  unfold k0_pay45
  pointwise

theorem places_wide (c : Fin 24) (j : Fin 5120) :
    (iota .tc S24x5120 32 [1] iota_S24x5120_d1_w32 : S24x5120.Idx → BitVec 32) (ix2 c j) = BitVec.ofNat 32 j.val := by
  pointwise

theorem places_slot (c : Fin 24) (l : Fin 512) :
    (iota .tc S24x512 32 [1] iota_S24x512_d1_w32 : S24x512.Idx → BitVec 32) (ix2 c l) = BitVec.ofNat 32 l.val := by
  pointwise

theorem end_scores (y : S1x300.Idx → EReal) (t : Fin 300) :
    (k0_pay1 (F := Ideal) (k0_pay51 (F := Ideal) y) : S1x1x300.Idx → EReal) (ix3 0 0 t) = y (ix2 0 t) := by
  unfold k0_pay1 k0_pay51
  pointwise

theorem end_labels (y : S1x300.Idx → BitVec 32) (t : Fin 300) :
    (k0_pay2 (F := Ideal) y : S1x1x300.Idx → BitVec 32) (ix3 0 0 t) = y (ix2 0 t) := by
  unfold k0_pay2
  pointwise

theorem end_boxes (y : S300x4.Idx → EReal) (t : Fin 300) (k : Fin 4) :
    (k0_pay3 (F := Ideal) y : S1x300x4.Idx → EReal) (ix3 0 t k) = y (ix2 t k) := by
  unfold k0_pay3
  pointwise

/-- The padded scores, put through the threshold, are the first scores of the classes. -/
theorem first_padded (C : Fin 4 → Fin 5000 → Fin 20 → EReal) (b : Fin 4) (c j : ℕ) {y : EReal}
    (hy : y = if h : j < 5000 ∧ c < 20 then C b ⟨j, h.1⟩ ⟨c, h.2⟩ else 0) : (if low < y then y else ⊥) = first C b c j := by
  unfold first
  subst hy
  by_cases h : j < 5000 ∧ c < 20
  · simp only [dif_pos h]
  · simp only [dif_neg h]
    exact if_neg (not_lt.mpr low_pos)

end Cert.KernelIdeal.Own
-- ==== Proof.KernelBody.lean ====
/-
  The kernel's body, run from staged scores and boxes, leaves the results in its three output windows.
-/
module

public import proofs.«01_k».proof.Proof.KernelTrip2
public import proofs.«01_k».proof.Proof.KernelStart

@[expose] public section

set_option maxRecDepth 65536

noncomputable section

namespace Cert.KernelIdeal.Own

open Cert.KernelIdeal Cert.KernelIdeal.Gen Nms
open Idealize.ShloMosaic Idealize.ShloMosaic.TcCoe
open Idealize.SL.Sem

variable {S : Finset (Ref sig .tc)}

variable (i : grid0.Coords) (arg1 : Memref sig .tc .vmem S1x24x5120 .f32) (harg1 : arg1.IsWhole) (arg2 : Memref sig .tc .vmem S1x8x5120 .f32) (harg2 : arg2.IsWhole) (arg3 : Memref sig .tc .vmem S1x300x4 .f32) (harg3 : arg3.IsWhole) (arg4 : Memref sig .tc .vmem S1x1x300 .f32) (harg4 : arg4.IsWhole) (arg5 : Memref sig .tc .vmem S1x1x300 .i32) (harg5 : arg5.IsWhole) (arg6 : Memref sig .tc .vmem S24x5120 .f32) (harg6 : arg6.IsWhole) (arg7 : Memref sig .tc .vmem S24x512 .f32) (harg7 : arg7.IsWhole) (arg8 : Memref sig .tc .vmem S24x512 .f32) (harg8 : arg8.IsWhole) (arg9 : Memref sig .tc .vmem S24x512 .f32) (harg9 : arg9.IsWhole) (arg10 : Memref sig .tc .vmem S24x512 .f32) (harg10 : arg10.IsWhole) (arg11 : Memref sig .tc .vmem S24x512 .f32) (harg11 : arg11.IsWhole) (arg12 : Memref sig .tc .vmem S24x512 .i32) (harg12 : arg12.IsWhole) (arg13 : Memref sig .tc .vmem S8x512 .f32) (harg13 : arg13.IsWhole) (arg14 : Memref sig .tc .vmem S8x512 .i32) (harg14 : arg14.IsWhole) (arg15 : Memref sig .tc .vmem S512x8 .f32) (harg15 : arg15.IsWhole)
  (marg1 : arg1.view.ref ∈ S) (marg2 : arg2.view.ref ∈ S) (marg3 : arg3.view.ref ∈ S) (marg4 : arg4.view.ref ∈ S) (marg5 : arg5.view.ref ∈ S) (marg6 : arg6.view.ref ∈ S) (marg7 : arg7.view.ref ∈ S) (marg8 : arg8.view.ref ∈ S) (marg9 : arg9.view.ref ∈ S) (marg10 : arg10.view.ref ∈ S) (marg11 : arg11.view.ref ∈ S) (marg12 : arg12.view.ref ∈ S) (marg13 : arg13.view.ref ∈ S) (marg14 : arg14.view.ref ∈ S) (marg15 : arg15.view.ref ∈ S)
  {L : Ref sig .tc → ℕ} (l1 : L arg1.view.ref = 1) (l2 : L arg2.view.ref = 2) (l3 : L arg3.view.ref = 3) (l4 : L arg4.view.ref = 4) (l5 : L arg5.view.ref = 5) (l6 : L arg6.view.ref = 6) (l7 : L arg7.view.ref = 7) (l8 : L arg8.view.ref = 8) (l9 : L arg9.view.ref = 9) (l10 : L arg10.view.ref = 10) (l11 : L arg11.view.ref = 11) (l12 : L arg12.view.ref = 12) (l13 : L arg13.view.ref = 13) (l14 : L arg14.view.ref = 14) (l15 : L arg15.view.ref = 15)

/-- The memories when the body has run: the inputs as they were and the results. -/
structure Done (A : Fin 4 → Fin 5000 → Fin 4 → EReal) (C : Fin 4 → Fin 5000 → Fin 20 → EReal) (b : Fin 4)
    (X1 : S1x24x5120.Idx → EReal) (X2 : S1x8x5120.Idx → EReal) (h : Heap sig (Elt Ideal)) : Prop where
  i1 : rd arg1 h = X1
  i2 : rd arg2 h = X2
  os : ∀ t : Fin 300, (rd arg4 h : S1x1x300.Idx → EReal) (ix3 0 0 t) = outS A C b t.val
  ol : ∀ t : Fin 300, (rd arg5 h : S1x1x300.Idx → BitVec 32) (ix3 0 0 t) = outL A C b t.val
  ob : ∀ (t : Fin 300) (k : Fin 4), (rd arg3 h : S1x300x4.Idx → EReal) (ix3 0 t k) = outB A C b t.val k

theorem pos_div (c : Fin 24) (l : Fin 512) : pos c l / 512 = c.val := by have := l.isLt; unfold pos; omega
theorem pos_mod (c : Fin 24) (l : Fin 512) : pos c l % 512 = l.val := by have := l.isLt; unfold pos; omega

theorem rowS_pos (A : Fin 4 → Fin 5000 → Fin 4 → EReal) (C : Fin 4 → Fin 5000 → Fin 20 → EReal) (b : Fin 4) (c : Fin 24) (l : Fin 512) :
    rowS A C b (pos c l) = if l.val < 300 then score (coord A b) (first C b c.val) l.val else ⊥ := by
  rw [rowS_at, pos_div, pos_mod]; rfl

theorem rowB_pos (A : Fin 4 → Fin 5000 → Fin 4 → EReal) (C : Fin 4 → Fin 5000 → Fin 20 → EReal) (b : Fin 4) (k : Fin 4) (c : Fin 24) (l : Fin 512) :
    rowB A C b k (pos c l) = if l.val < 300 ∧ score (coord A b) (first C b c.val) l.val ≠ ⊥
      then coord A b k (place (coord A b) (first C b c.val) l.val) else 0 := by
  unfold rowB; rw [pos_div, pos_mod]; rfl

theorem trips1 : k0_t1_loop.trips = 300 := by decide
theorem trips2 : k0_t2_loop.trips = 300 := by decide

theorem wide_lt {n m : ℕ} (t : Fin n) (h : n ≤ m) : t.val < m := lt_of_lt_of_le t.isLt h

include marg1 marg2 marg3 marg4 marg5 marg6 marg7 marg8 marg9 marg10 marg11 marg12 marg13 marg14 marg15 l1 l2 l3 l4 l5 l6 l7 l8 l9 l10 l11 l12 l13 l14 l15

set_option maxHeartbeats 4000000 in
theorem runs_body (A : Fin 4 → Fin 5000 → Fin 4 → EReal) (C : Fin 4 → Fin 5000 → Fin 20 → EReal) (b : Fin 4)
    {X1 : S1x24x5120.Idx → EReal} {X2 : S1x8x5120.Idx → EReal}
    (hX1 : ∀ (c : Fin 24) (j : Fin 5120), X1 (ix3 0 c j) = if h : j.val < 5000 ∧ c.val < 20 then C b ⟨j.val, h.1⟩ ⟨c.val, h.2⟩ else 0)
    (hX2 : ∀ (k : Fin 4) (j : Fin 5120), X2 (ix3 0 (Fin.castLE four_le k) j) = coord A b k j.val)
    (h : Heap sig (Elt Ideal)) (e1 : rd arg1 h = X1) (e2 : rd arg2 h = X2) :
    Runs S (cc0__fd_kernel (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) h
      (fun _ h' => Done arg1 arg2 arg3 arg4 arg5 A C b X1 X2 h') := by
  have hr : ∀ (k : Fin 4) (j : Fin 5120), (rd arg2 h : S1x8x5120.Idx → EReal) (ix3 0 (Fin.castLE four_le k) j) = coord A b k j.val := by
    rw [e2]; exact hX2
  have hs : ∀ (c : Fin 24) (j : Fin 5120), (k0_pay39 (F := Ideal) X1 : S24x5120.Idx → EReal) (ix2 c j) = first C b c.val j.val :=
    fun c j => (start_scores X1 c j).trans (first_padded C b c.val j.val (hX1 c j))
  rw [cc0__fd_kernel_eq_skeleton]
  unfold cc0__fd_kernel_skel
  rw [k0_part6_eq_skeleton, k0_part7_eq_skeleton]
  refine (runs_bind _ _ _ _).mpr ?_
  unfold k0_part6_skel
  refine runs_load arg2 _ _ _ _ _ marg2 rfl ?_
  refine runs_load arg2 _ _ _ _ _ marg2 rfl ?_
  refine runs_load arg2 _ _ _ _ _ marg2 rfl ?_
  refine runs_load arg2 _ _ _ _ _ marg2 rfl ?_
  refine runs_load_full arg1 _ _ _ _ _ _ marg1 zero3 e1 ?_
  refine runs_load_full arg6 _ _ _ _ _ _ marg6 zero2 rfl ?_
  refine runs_store arg6 _ _ _ _ _ _ _ marg6 ?_
  refine runs_load_full arg7 _ _ _ _ _ _ marg7 zero2 rfl ?_
  refine runs_store arg7 _ _ _ _ _ _ _ marg7 ?_
  refine runs_load_full arg8 _ _ _ _ _ _ marg8 zero2 rfl ?_
  refine (runs_bind _ _ _ _).mpr ?_
  unfold k0_part7_skel
  refine runs_store arg8 _ _ _ _ _ _ _ marg8 ?_
  refine runs_load_full arg9 _ _ _ _ _ _ marg9 zero2 rfl ?_
  refine runs_store arg9 _ _ _ _ _ _ _ marg9 ?_
  refine runs_load_full arg10 _ _ _ _ _ _ marg10 zero2 rfl ?_
  refine runs_store arg10 _ _ _ _ _ _ _ marg10 ?_
  refine runs_load_full arg11 _ _ _ _ _ _ marg11 zero2 rfl ?_
  refine runs_store arg11 _ _ _ _ _ _ _ marg11 ?_
  refine (runs_bind _ _ _ _).mpr ?_
  have h0 := hr 0
  have h1 := hr 1
  have h2 := hr 2
  have h3 := hr 3
  refine runs_for _ _ _ _ _ _ (fun t _ h => Kept arg1 arg2 arg6 arg7 arg8 arg9 arg10 arg11 (coord A b) (fun c => first C b c) X1 X2 t h) _ ?_ ?_ _ ?_
  · refine { i1 := ?_, i2 := ?_, s := fun c j => ?_, r := fun c l => ?_, x1 := fun c l => ?_, y1 := fun c l => ?_, x2 := fun c l => ?_, y2 := fun c l => ?_ }
    · exact ((rd_put_ne (ne_of l1 l11 (by decide))).trans ((rd_put_ne (ne_of l1 l10 (by decide))).trans ((rd_put_ne (ne_of l1 l9 (by decide))).trans ((rd_put_ne (ne_of l1 l8 (by decide))).trans ((rd_put_ne (ne_of l1 l7 (by decide))).trans ((rd_put_ne (ne_of l1 l6 (by decide))).trans (e1)))))))
    · exact ((rd_put_ne (ne_of l2 l11 (by decide))).trans ((rd_put_ne (ne_of l2 l10 (by decide))).trans ((rd_put_ne (ne_of l2 l9 (by decide))).trans ((rd_put_ne (ne_of l2 l8 (by decide))).trans ((rd_put_ne (ne_of l2 l7 (by decide))).trans ((rd_put_ne (ne_of l2 l6 (by decide))).trans (e2)))))))
    · exact (congrFun ((rd_put_ne (ne_of l6 l11 (by decide))).trans ((rd_put_ne (ne_of l6 l10 (by decide))).trans ((rd_put_ne (ne_of l6 l9 (by decide))).trans ((rd_put_ne (ne_of l6 l8 (by decide))).trans ((rd_put_ne (ne_of l6 l7 (by decide))).trans (rd_put_full)))))) (ix2 c j)).trans (hs c j)
    · exact (congrFun ((rd_put_ne (ne_of l7 l11 (by decide))).trans ((rd_put_ne (ne_of l7 l10 (by decide))).trans ((rd_put_ne (ne_of l7 l9 (by decide))).trans ((rd_put_ne (ne_of l7 l8 (by decide))).trans (rd_put_full))))) (ix2 c l)).trans ((start_rec _).trans (if_neg (Nat.not_lt_zero _)).symm)
    · exact (congrFun ((rd_put_ne (ne_of l8 l11 (by decide))).trans ((rd_put_ne (ne_of l8 l10 (by decide))).trans ((rd_put_ne (ne_of l8 l9 (by decide))).trans (rd_put_full)))) (ix2 c l)).trans ((start_rec1 _).trans (if_neg (fun hh => absurd hh.1 (Nat.not_lt_zero _))).symm)
    · exact (congrFun ((rd_put_ne (ne_of l9 l11 (by decide))).trans ((rd_put_ne (ne_of l9 l10 (by decide))).trans (rd_put_full))) (ix2 c l)).trans ((start_rec2 _).trans (if_neg (fun hh => absurd hh.1 (Nat.not_lt_zero _))).symm)
    · exact (congrFun ((rd_put_ne (ne_of l10 l11 (by decide))).trans (rd_put_full)) (ix2 c l)).trans ((start_rec3 _).trans (if_neg (fun hh => absurd hh.1 (Nat.not_lt_zero _))).symm)
    · exact (congrFun (rd_put_full) (ix2 c l)).trans ((start_rec4 _).trans (if_neg (fun hh => absurd hh.1 (Nat.not_lt_zero _))).symm)
  · intro t _ h' hk
    refine runs_trip1 i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 l1 l2 l3 l4 l5 l6 l7 l8 l9 l10 l11 l12 l13 l14 l15 places_wide places_slot ?_ ?_ ?_ ?_ ?_ ?_ t (wide_lt t (le_of_eq trips1)) h' hk
    · exact fun j => (start_x1 _ j).trans ((readAt_part arg2 h (ix3 0 0 j) (ix3 0 0 j) (by intro a; fin_cases a <;> exact (Nat.zero_add _).symm)).trans (h0 j))
    · exact fun j => (start_y1 _ j).trans ((readAt_part arg2 h (ix3 0 1 j) (ix3 0 0 j) (by intro a; fin_cases a <;> exact (Nat.zero_add _).symm)).trans (h1 j))
    · exact fun j => (start_x2 _ j).trans ((readAt_part arg2 h (ix3 0 2 j) (ix3 0 0 j) (by intro a; fin_cases a <;> exact (Nat.zero_add _).symm)).trans (h2 j))
    · exact fun j => (start_y2 _ j).trans ((readAt_part arg2 h (ix3 0 3 j) (ix3 0 0 j) (by intro a; fin_cases a <;> exact (Nat.zero_add _).symm)).trans (h3 j))
    · exact fun j => start_area (coord A b) _ _ _ _ j ((readAt_part arg2 h (ix3 0 0 j) (ix3 0 0 j) (by intro a; fin_cases a <;> exact (Nat.zero_add _).symm)).trans (h0 j))
        ((readAt_part arg2 h (ix3 0 1 j) (ix3 0 0 j) (by intro a; fin_cases a <;> exact (Nat.zero_add _).symm)).trans (h1 j)) ((readAt_part arg2 h (ix3 0 2 j) (ix3 0 0 j) (by intro a; fin_cases a <;> exact (Nat.zero_add _).symm)).trans (h2 j))
        ((readAt_part arg2 h (ix3 0 3 j) (ix3 0 0 j) (by intro a; fin_cases a <;> exact (Nat.zero_add _).symm)).trans (h3 j))
    · exact fun c q hq => first_bot (by omega)
  · intro _ ha hk'
    have hk : Kept arg1 arg2 arg6 arg7 arg8 arg9 arg10 arg11 (coord A b) (fun c => first C b c) X1 X2 300 ha := trips1 ▸ hk'
    refine runs_load_full arg12 _ _ _ _ _ _ marg12 zero2 rfl ?_
    refine runs_store arg12 _ _ _ _ _ _ _ marg12 ?_
    refine (runs_bind _ _ _ _).mpr ?_
    refine runs_for _ _ _ _ _ _ (fun t _ h => Merged arg1 arg2 arg7 arg8 arg9 arg10 arg11 arg12 arg13 arg14 arg15 (rowS A C b) (rowB A C b) X1 X2 t h) _ ?_ ?_ _ ?_
    · refine { i1 := ?_, i2 := ?_, r := fun c l => ?_, x1 := fun c l => ?_, y1 := fun c l => ?_, x2 := fun c l => ?_, y2 := fun c l => ?_, p := fun c l => ?_, os := fun l hl => absurd hl (Nat.not_lt_zero _), ol := fun l hl => absurd hl (Nat.not_lt_zero _), ob := fun l k hl => absurd hl (Nat.not_lt_zero _) }
      · exact ((rd_put_ne (ne_of l1 l12 (by decide))).trans (hk.i1))
      · exact ((rd_put_ne (ne_of l2 l12 (by decide))).trans (hk.i2))
      · exact (congrFun (rd_put_ne (ne_of l7 l12 (by decide))) (ix2 c l)).trans ((hk.r c l).trans (rowS_pos A C b c l).symm)
      · exact (congrFun (rd_put_ne (ne_of l8 l12 (by decide))) (ix2 c l)).trans ((hk.x1 c l).trans (rowB_pos A C b 0 c l).symm)
      · exact (congrFun (rd_put_ne (ne_of l9 l12 (by decide))) (ix2 c l)).trans ((hk.y1 c l).trans (rowB_pos A C b 1 c l).symm)
      · exact (congrFun (rd_put_ne (ne_of l10 l12 (by decide))) (ix2 c l)).trans ((hk.x2 c l).trans (rowB_pos A C b 2 c l).symm)
      · exact (congrFun (rd_put_ne (ne_of l11 l12 (by decide))) (ix2 c l)).trans ((hk.y2 c l).trans (rowB_pos A C b 3 c l).symm)
      · exact (congrFun rd_put_full (ix2 c l)).trans ((first_places c l).trans (congrArg (BitVec.ofNat 32) (if_neg (Finset.notMem_empty _)).symm))
    · intro t _ h' hm
      exact runs_trip2 i arg1 harg1 arg2 harg2 arg3 harg3 arg4 harg4 arg5 harg5 arg6 harg6 arg7 harg7 arg8 harg8 arg9 harg9 arg10 harg10 arg11 harg11 arg12 harg12 arg13 harg13 arg14 harg14 arg15 harg15 marg1 marg2 marg3 marg4 marg5 marg6 marg7 marg8 marg9 marg10 marg11 marg12 marg13 marg14 marg15 l1 l2 l3 l4 l5 l6 l7 l8 l9 l10 l11 l12 l13 l14 l15 places_slot t (wide_lt t (le_of_eq trips2)) h' hm
    · intro _ hb hm'
      have hm : Merged arg1 arg2 arg7 arg8 arg9 arg10 arg11 arg12 arg13 arg14 arg15 (rowS A C b) (rowB A C b) X1 X2 300 hb := trips2 ▸ hm'
      refine runs_load arg13 _ _ _ _ _ marg13 rfl ?_
      refine runs_load_full arg4 _ _ _ _ _ _ marg4 zero3 rfl ?_
      refine runs_store arg4 _ _ _ _ _ _ _ marg4 ?_
      refine runs_load arg14 _ _ _ _ _ marg14 rfl ?_
      refine runs_load_full arg5 _ _ _ _ _ _ marg5 zero3 rfl ?_
      refine runs_store arg5 _ _ _ _ _ _ _ marg5 ?_
      refine runs_load arg15 _ _ _ _ _ marg15 rfl ?_
      refine runs_load_full arg3 _ _ _ _ _ _ marg3 zero3 rfl ?_
      refine runs_store arg3 _ _ _ _ _ _ _ marg3 ?_
      refine { i1 := ?_, i2 := ?_, os := fun t => ?_, ol := fun t => ?_, ob := fun t k => ?_ }
      · exact ((rd_put_ne (ne_of l1 l3 (by decide))).trans ((rd_put_ne (ne_of l1 l5 (by decide))).trans ((rd_put_ne (ne_of l1 l4 (by decide))).trans (hm.i1))))
      · exact ((rd_put_ne (ne_of l2 l3 (by decide))).trans ((rd_put_ne (ne_of l2 l5 (by decide))).trans ((rd_put_ne (ne_of l2 l4 (by decide))).trans (hm.i2))))
      · refine (congrFun ((rd_put_ne (ne_of l4 l3 (by decide))).trans ((rd_put_ne (ne_of l4 l5 (by decide))).trans (rd_put_full))) (ix3 0 0 t)).trans ((end_scores _ t).trans ?_)
        refine (readAt_part arg13 hb (ix2 0 (Fin.castLE (by decide : 300 ≤ 512) t)) (ix2 0 t) (by intro a; fin_cases a <;> exact (Nat.zero_add _).symm)).trans ?_
        exact (hm.os _ t.isLt).trans (rows_match A C b t.val t.isLt).1
      · refine (congrFun ((rd_put_ne (ne_of l5 l3 (by decide))).trans (rd_put_full)) (ix3 0 0 t)).trans ((end_labels _ t).trans ?_)
        refine (readAt_part arg14 _ (ix2 0 (Fin.castLE (by decide : 300 ≤ 512) t)) (ix2 0 t) (by intro a; fin_cases a <;> exact (Nat.zero_add _).symm)).trans ?_
        refine (congrFun (rd_put_ne (ne_of l14 l4 (by decide))) _).trans ?_
        exact (hm.ol _ t.isLt).trans (rows_label A C b t.val t.isLt)
      · refine (congrFun rd_put_full (ix3 0 t k)).trans ((end_boxes _ t k).trans ?_)
        refine (readAt_part arg15 _ (ix2 (Fin.castLE (by decide : 300 ≤ 512) t) (Fin.castLE four_le k)) (ix2 t k) (by intro a; fin_cases a <;> exact (Nat.zero_add _).symm)).trans ?_
        refine (congrFun ((rd_put_ne (ne_of l15 l5 (by decide))).trans (rd_put_ne (ne_of l15 l4 (by decide)))) _).trans ?_
        exact (hm.ob _ k t.isLt).trans (rows_box A C b t.val t.isLt k)

end Cert.KernelIdeal.Own
-- ==== Proof.KernelHost.lean ====
/-
  What the host lines before the call hand to the kernel: the host turns the boxes and the scores so that a candidate is a column, and fills with zeros
  up to whole tiles.
-/
module

public import proofs.«01_k».proof.Proof.KernelBody
public import proofs.«01_k».proof.Proof.Gen.KernelIdeal.Frame
public import Idealize.ShloMosaic.Lib.StableHlo.RunRead
public import Idealize.ShloMosaic.Lib.Pointwise

@[expose] public section

set_option maxRecDepth 20000

noncomputable section

namespace Cert.KernelIdeal.Own

open Cert.KernelIdeal Cert.KernelIdeal.Gen Nms
open Idealize.ShloMosaic Idealize.ShloMosaic.TcCoe
open Idealize.SL.Sem

variable (m : (ℓ : Loc nD τ sig) → Buf (Elt Ideal) ℓ) (c : Dev nD)

/-- Coordinate `k` of box `j` of image `b`, as launched. -/
def inA (b : Fin 4) (j : Fin 5000) (k : Fin 4) : EReal := (m ((c : Thread nD τ).loc main_arg0) : S4x5000x4.Idx → EReal) (ix3 b j k)

/-- The score of box `j` of image `b` for class `k`, as launched. -/
def inC (b : Fin 4) (j : Fin 5000) (k : Fin 20) : EReal := (m ((c : Thread nD τ).loc main_arg1) : S4x5000x20.Idx → EReal) (ix3 b j k)

/-- The scores the call is given. -/
theorem entry_scores (b : Fin 4) (k : Fin 24) (j : Fin 5120) : (V m c main_v1 : S4x24x5120.Idx → EReal) (ix3 b k j)
    = if h : j.val < 5000 ∧ k.val < 20 then inC m c b ⟨j.val, h.1⟩ ⟨k.val, h.2⟩ else 0 := by
  show StableHlo.after [hostOps0, hostOps0_1, hostOps0_2, hostOps0_3].flatten (fun b => m (c, b)) (Proc.devRef .tc main_v1) (ix3 b k j) = _
  simp only [List.flatten_cons, List.flatten_nil, List.append_nil, List.cons_append, List.nil_append, hostOps0_3]
  after_reads_simp
  simp only [StableHlo.TRef.toBuf, StableHlo.TRef.ofBuf, id, cast_eq, eq_mpr_eq_cast]
  pointwise
  by_cases h : j.val < 5000 ∧ k.val < 20
  · rw [dif_pos h, dif_pos ⟨h.2, h.1⟩]; rfl
  · rw [dif_neg h, dif_neg fun e => h ⟨e.2, e.1⟩]; show (((0#32 : BitVec 32).toInt : ℝ) : EReal) = 0; simp

/-- The boxes the call is given. -/
theorem entry_boxes (b k : Fin 4) (j : Fin 5120) : (V m c main_v3 : S4x8x5120.Idx → EReal) (ix3 b (Fin.castLE four_le k) j)
    = coord (inA m c) b k j.val := by
  show StableHlo.after [hostOps0, hostOps0_1, hostOps0_2, hostOps0_3].flatten (fun b => m (c, b)) (Proc.devRef .tc main_v3)
    (ix3 b (Fin.castLE four_le k) j) = _
  simp only [List.flatten_cons, List.flatten_nil, List.append_nil, List.cons_append, List.nil_append, hostOps0_3]
  after_reads_simp
  simp only [StableHlo.TRef.toBuf, StableHlo.TRef.ofBuf, id, cast_eq, eq_mpr_eq_cast]
  pointwise
  unfold coord
  by_cases h : j.val < 5000
  · rw [dif_pos h]; exact (dif_pos ⟨k.isLt, h⟩).trans rfl
  · rw [dif_neg h, dif_neg fun e => h e.2]; show (((0#32 : BitVec 32).toInt : ℝ) : EReal) = 0; simp

end Cert.KernelIdeal.Own
-- ==== Proof.KernelLaunch.lean ====
/-
  The kernel's run from any launch memory: what the three results hold at the end, as `Proof/Answer.lean` says them.
-/
module

public import proofs.«01_k».proof.Proof.KernelHost
public import proofs.«01_k».proof.Proof.KernelIdealFrame
public import Idealize.ShloMosaic.Lib.Pipeline.Value

@[expose] public section

set_option maxRecDepth 16384

noncomputable section

namespace Cert.KernelIdeal.Own

open Cert.KernelIdeal Cert.KernelIdeal.Gen Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The image of a point. -/
def row (t : Fin cfg0.N) : Fin 4 := ⟨t.val, lt_of_lt_of_eq t.isLt N_0⟩

/-- The boxes of the best detections. -/
def boxesG (c : Dev nD) : S4x300x4.Idx → EReal := fun y => outB (inA m c) (inC m c) (y 0) (y 1).val (y 2)
/-- Their scores. -/
def scoresG (c : Dev nD) : S4x1x300.Idx → EReal := fun y => outS (inA m c) (inC m c) (y 0) (y 2).val
/-- Their classes. -/
def labelsG (c : Dev nD) : S4x1x300.Idx → BitVec 32 := fun y => outL (inA m c) (inC m c) (y 0) (y 2).val

theorem blk0 (t : Fin cfg0.N) (G : S4x24x5120.Idx → EReal) (r : Fin 24) (j : Fin 5120) :
    (((cfg0.win 0).blk t).view.read (Elt Ideal) G : S1x24x5120.Idx → EReal) (ix3 0 r j) = G (ix3 (row t) r j) := by
  show G ((win0_0.rect t).emb (ix3 0 r j : S1x24x5120.Idx)) = _
  refine congrArg G (funext fun a => Fin.ext ?_)
  rw [Pipeline.Window.rect_emb_val win0_0 t]
  have e : win0_0.index t 0 * win0_0.size 0 = t.val ∧ win0_0.index t 1 * win0_0.size 1 = 0 ∧ win0_0.index t 2 * win0_0.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem blk1 (t : Fin cfg0.N) (G : S4x8x5120.Idx → EReal) (r : Fin 8) (j : Fin 5120) :
    (((cfg0.win 1).blk t).view.read (Elt Ideal) G : S1x8x5120.Idx → EReal) (ix3 0 r j) = G (ix3 (row t) r j) := by
  show G ((win0_1.rect t).emb (ix3 0 r j : S1x8x5120.Idx)) = _
  refine congrArg G (funext fun a => Fin.ext ?_)
  rw [Pipeline.Window.rect_emb_val win0_1 t]
  have e : win0_1.index t 0 * win0_1.size 0 = t.val ∧ win0_1.index t 1 * win0_1.size 1 = 0 ∧ win0_1.index t 2 * win0_1.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem blk2 (t : Fin cfg0.N) (G : S4x300x4.Idx → EReal) (r : Fin 300) (j : Fin 4) :
    (((cfg0.win 2).blk t).view.read (Elt Ideal) G : S1x300x4.Idx → EReal) (ix3 0 r j) = G (ix3 (row t) r j) := by
  show G ((win0_2.rect t).emb (ix3 0 r j : S1x300x4.Idx)) = _
  refine congrArg G (funext fun a => Fin.ext ?_)
  rw [Pipeline.Window.rect_emb_val win0_2 t]
  have e : win0_2.index t 0 * win0_2.size 0 = t.val ∧ win0_2.index t 1 * win0_2.size 1 = 0 ∧ win0_2.index t 2 * win0_2.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem blk3 (t : Fin cfg0.N) (G : S4x1x300.Idx → EReal) (r : Fin 1) (j : Fin 300) :
    (((cfg0.win 3).blk t).view.read (Elt Ideal) G : S1x1x300.Idx → EReal) (ix3 0 r j) = G (ix3 (row t) r j) := by
  show G ((win0_3.rect t).emb (ix3 0 r j : S1x1x300.Idx)) = _
  refine congrArg G (funext fun a => Fin.ext ?_)
  rw [Pipeline.Window.rect_emb_val win0_3 t]
  have e : win0_3.index t 0 * win0_3.size 0 = t.val ∧ win0_3.index t 1 * win0_3.size 1 = 0 ∧ win0_3.index t 2 * win0_3.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem blk4 (t : Fin cfg0.N) (G : S4x1x300.Idx → BitVec 32) (r : Fin 1) (j : Fin 300) :
    (((cfg0.win 4).blk t).view.read (Elt Ideal) G : S1x1x300.Idx → BitVec 32) (ix3 0 r j) = G (ix3 (row t) r j) := by
  show G ((win0_4.rect t).emb (ix3 0 r j : S1x1x300.Idx)) = _
  refine congrArg G (funext fun a => Fin.ext ?_)
  rw [Pipeline.Window.rect_emb_val win0_4 t]
  have e : win0_4.index t 0 * win0_4.size 0 = t.val ∧ win0_4.index t 1 * win0_4.size 1 = 0 ∧ win0_4.index t 2 * win0_4.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

/-- A name for each buffer of a point. -/
def scrMark (b : Ref sig .tc) : ℕ :=
  if b = cc0_scratch0 then 6 else if b = cc0_scratch1 then 7 else if b = cc0_scratch2 then 8 else if b = cc0_scratch3 then 9 else if b = cc0_scratch4 then 10 else if b = cc0_scratch5 then 11 else if b = cc0_scratch6 then 12 else if b = cc0_scratch7 then 13 else if b = cc0_scratch8 then 14 else if b = cc0_scratch9 then 15 else 0
def mark (t : Fin cfg0.N) (b : Ref sig .tc) : ℕ :=
  if b = (st0_0 t).view.ref then 1 else if b = (st0_1 t).view.ref then 2 else if b = (st0_2 t).view.ref then 3 else if b = (st0_3 t).view.ref then 4 else if b = (st0_4 t).view.ref then 5 else scrMark b
theorem ne_scr (w : Fin 5) (s : Fin (spec0 w).nbuf) {b : Ref sig .tc} (hb : b ∈ scr) : b ≠ Pipeline.stageRef spec0 ⟨w, s⟩ :=
  fun e => stage_not_scr w s (e ▸ hb)
theorem mark_0 (t : Fin cfg0.N) : mark t (st0_0 t).view.ref = 1 := if_pos rfl
theorem mark_1 (t : Fin cfg0.N) : mark t (st0_1 t).view.ref = 2 := (if_neg (stage_ne (w := 1) (w' := 0) (by decide) _ _)).trans (if_pos rfl)
theorem mark_2 (t : Fin cfg0.N) : mark t (st0_2 t).view.ref = 3 := (if_neg (stage_ne (w := 2) (w' := 0) (by decide) _ _)).trans ((if_neg (stage_ne (w := 2) (w' := 1) (by decide) _ _)).trans (if_pos rfl))
theorem mark_3 (t : Fin cfg0.N) : mark t (st0_3 t).view.ref = 4 := (if_neg (stage_ne (w := 3) (w' := 0) (by decide) _ _)).trans ((if_neg (stage_ne (w := 3) (w' := 1) (by decide) _ _)).trans ((if_neg (stage_ne (w := 3) (w' := 2) (by decide) _ _)).trans (if_pos rfl)))
theorem mark_4 (t : Fin cfg0.N) : mark t (st0_4 t).view.ref = 5 := (if_neg (stage_ne (w := 4) (w' := 0) (by decide) _ _)).trans ((if_neg (stage_ne (w := 4) (w' := 1) (by decide) _ _)).trans ((if_neg (stage_ne (w := 4) (w' := 2) (by decide) _ _)).trans ((if_neg (stage_ne (w := 4) (w' := 3) (by decide) _ _)).trans (if_pos rfl))))
theorem mark_scr (t : Fin cfg0.N) {b : Ref sig .tc} (hb : b ∈ scr) : mark t b = scrMark b := (if_neg (ne_scr 0 (cfg0.slots t 0) hb)).trans ((if_neg (ne_scr 1 (cfg0.slots t 1) hb)).trans ((if_neg (ne_scr 2 (cfg0.slots t 2) hb)).trans ((if_neg (ne_scr 3 (cfg0.slots t 3) hb)).trans ((if_neg (ne_scr 4 (cfg0.slots t 4) hb)).trans (rfl)))))
theorem scrMark_0 : scrMark cc0_scratch0 = 6 := by unfold scrMark; decide
theorem scrMark_1 : scrMark cc0_scratch1 = 7 := by unfold scrMark; decide
theorem scrMark_2 : scrMark cc0_scratch2 = 8 := by unfold scrMark; decide
theorem scrMark_3 : scrMark cc0_scratch3 = 9 := by unfold scrMark; decide
theorem scrMark_4 : scrMark cc0_scratch4 = 10 := by unfold scrMark; decide
theorem scrMark_5 : scrMark cc0_scratch5 = 11 := by unfold scrMark; decide
theorem scrMark_6 : scrMark cc0_scratch6 = 12 := by unfold scrMark; decide
theorem scrMark_7 : scrMark cc0_scratch7 = 13 := by unfold scrMark; decide
theorem scrMark_8 : scrMark cc0_scratch8 = 14 := by unfold scrMark; decide
theorem scrMark_9 : scrMark cc0_scratch9 = 15 := by unfold scrMark; decide

/-- The proof data: the arrays as the call finds them; an input's staging buffer keeps its block, an output's ends with its block of the results. -/
def datsV : (p : Fin 1) → (c : Dev nD) → Dat τ (Elt Ideal) Unit ℕ (UR sig nD τ) ℕ (cfgs p) c := fun _ c => {
  A w := V m c (Pipeline.arrRef spec0 w)
  after w t := match w with
    | 0 => iblk m c 0 t
    | 1 => iblk m c 1 t
    | 2 => ((cfg0.win 2).blk t).view.read (Elt Ideal) (boxesG m c)
    | 3 => ((cfg0.win 3).blk t).view.read (Elt Ideal) (scoresG m c)
    | 4 => ((cfg0.win 4).blk t).view.read (Elt Ideal) (labelsG m c)
  Φ _ := Pipeline.ΦA spec0 c
  q _ := fullShare
  owed _ := 0 }

/-- The body at a point: the inputs stay, the outputs end as the results of the point's image. -/
theorem runs_at (c : Dev nD) (t : Fin cfg0.N) (h : Heap sig (Elt Ideal)) (e1 : rd (st0_0 t) h = iblk m c 0 t) (e2 : rd (st0_1 t) h = iblk m c 1 t) :
    Runs (bufs t) (bodyAt0 (F := Ideal) t) h (fun _ h' => Done (st0_0 t) (st0_1 t) (st0_2 t) (st0_3 t) (st0_4 t)
      (inA m c) (inC m c) (row t) (iblk m c 0 t) (iblk m c 1 t) h') :=
  runs_body _ _ _ _ _ _ _ _ _ _ _ _ _ _ _ _ _ _ _ _ _ _ _ _ _ _ _ _ _ _ _
    (by unfold bufs; simp) (by unfold bufs; simp) (by unfold bufs; simp) (by unfold bufs; simp) (by unfold bufs; simp)
    (mem_scr s0 t) (mem_scr s1 t) (mem_scr s2 t) (mem_scr s3 t) (mem_scr s4 t) (mem_scr s5 t) (mem_scr s6 t) (mem_scr s7 t) (mem_scr s8 t) (mem_scr s9 t)
    (L := mark t) (mark_0 t) (mark_1 t) (mark_2 t) (mark_3 t) (mark_4 t) (by exact (mark_scr t s0).trans scrMark_0) (by exact (mark_scr t s1).trans scrMark_1) (by exact (mark_scr t s2).trans scrMark_2) (by exact (mark_scr t s3).trans scrMark_3) (by exact (mark_scr t s4).trans scrMark_4) (by exact (mark_scr t s5).trans scrMark_5) (by exact (mark_scr t s6).trans scrMark_6) (by exact (mark_scr t s7).trans scrMark_7) (by exact (mark_scr t s8).trans scrMark_8) (by exact (mark_scr t s9).trans scrMark_9)
    (inA m c) (inC m c) (row t)
    (fun k j => (blk0 t _ k j).trans (entry_scores m c (row t) k j))
    (fun k j => (blk1 t _ (Fin.castLE four_le k) j).trans (entry_boxes m c (row t) k j)) h e1 e2

section Point
variable {m} {c : Dev nD} {t : Fin cfg0.N} {h : Heap sig (Elt Ideal)}
  (d : Done (st0_0 t) (st0_1 t) (st0_2 t) (st0_3 t) (st0_4 t) (inA m c) (inC m c) (row t) (iblk m c 0 t) (iblk m c 1 t) h)
include d

theorem done_boxes : rd (st0_2 t) h = ((cfg0.win 2).blk t).view.read (Elt Ideal) (boxesG m c) := by
  refine funext fun (y : S1x300x4.Idx) => ?_
  have e : y = ix3 0 (y 1) (y 2) := (eq_ix3 y).trans (congrArg (fun z => ix3 z (y 1) (y 2)) (Subsingleton.elim (α := Fin 1) _ _))
  rw [e]
  exact (d.ob _ _).trans (blk2 t (boxesG m c) _ _).symm

theorem done_scores : rd (st0_3 t) h = ((cfg0.win 3).blk t).view.read (Elt Ideal) (scoresG m c) := by
  refine funext fun (y : S1x1x300.Idx) => ?_
  have e : y = ix3 0 0 (y 2) := (eq_ix3 y).trans (congrArg₂ (fun z z' => ix3 z z' (y 2)) (Subsingleton.elim (α := Fin 1) _ _) (Subsingleton.elim (α := Fin 1) _ _))
  rw [e]
  exact (d.os _).trans (blk3 t (scoresG m c) 0 _).symm

theorem done_labels : rd (st0_4 t) h = ((cfg0.win 4).blk t).view.read (Elt Ideal) (labelsG m c) := by
  refine funext fun (y : S1x1x300.Idx) => ?_
  have e : y = ix3 0 0 (y 2) := (eq_ix3 y).trans (congrArg₂ (fun z z' => ix3 z z' (y 2)) (Subsingleton.elim (α := Fin 1) _ _) (Subsingleton.elim (α := Fin 1) _ _))
  rw [e]
  exact (d.ol _).trans (blk4 t (labelsG m c) 0 _).symm

end Point

theorem bodyPtV (c : Dev nD) (t : Fin cfg0.N) :
    iprop(Pipeline.ΦA spec0 c ∗ (datsV m 0 c).owesAt () t.castSucc
        ∗ (∃ d, owns (c : Thread nD τ) (st0_0 t) fullShare ((datsV m 0 c).before 0 t d)) ∗ (∃ d, owns (c : Thread nD τ) (st0_1 t) fullShare ((datsV m 0 c).before 1 t d))
        ∗ (∃ d, owns (c : Thread nD τ) (st0_2 t) fullShare ((datsV m 0 c).before 2 t d)) ∗ (∃ d, owns (c : Thread nD τ) (st0_3 t) fullShare ((datsV m 0 c).before 3 t d))
        ∗ (∃ d, owns (c : Thread nD τ) (st0_4 t) fullShare ((datsV m 0 c).before 4 t d)))
      ⊢ wp Idealize.ShloMosaic.frame (wpE (defs₀ (F := Ideal)) Variants.none c none) Set.univ (bodyAt0 t) (fun _ =>
        (iprop(Pipeline.ΦA spec0 c ∗ (datsV m 0 c).owesAt () t.succ
        ∗ owns (c : Thread nD τ) (st0_0 t) fullShare ((datsV m 0 c).after 0 t) ∗ owns (c : Thread nD τ) (st0_1 t) fullShare ((datsV m 0 c).after 1 t)
        ∗ owns (c : Thread nD τ) (st0_2 t) fullShare ((datsV m 0 c).after 2 t) ∗ owns (c : Thread nD τ) (st0_3 t) fullShare ((datsV m 0 c).after 3 t)
        ∗ owns (c : Thread nD τ) (st0_4 t) fullShare ((datsV m 0 c).after 4 t)) : sProp 𝕄)) := by
  unfold Pipeline.ΦA
  rw [show (datsV m 0 c).owesAt () t.succ = (datsV m 0 c).owesAt () t.castSucc from rfl]
  iintro ⟨⟨Hs, Hg⟩, HW, ⟨%X0, H0⟩, ⟨%X1, H1⟩, ⟨%X2, H2⟩, ⟨%X3, H3⟩, ⟨%X4, H4⟩⟩
  ihave Hp := (show (Pipeline.scopedRest spec0 c : sProp 𝕄) ⊢ ∃ h : Heap sig (Elt Ideal), pts c scr h from held_pts c (fun b => V m c b) scr) $$ Hs
  icases Hp with ⟨%h, Hp⟩
  ihave H0 := (owns_take c (st0_0 t) (w0 t) _) $$ H0
  icases H0 with ⟨%f0, %q0, H0⟩
  ihave H1 := (owns_take c (st0_1 t) (w1 t) _) $$ H1
  icases H1 with ⟨%f1, %q1, H1⟩
  ihave H2 := (owns_take c (st0_2 t) (w2 t) _) $$ H2
  icases H2 with ⟨%f2, -, H2⟩
  ihave H3 := (owns_take c (st0_3 t) (w3 t) _) $$ H3
  icases H3 with ⟨%f3, -, H3⟩
  ihave H4 := (owns_take c (st0_4 t) (w4 t) _) $$ H4
  icases H4 with ⟨%f4, -, H4⟩
  have e1 : rd (st0_0 t) (heap5 t h f0 f1 f2 f3 f4) = iblk m c 0 t := by
    unfold rd heap5
    rw [Function.update_self]
    exact q0.trans (before0_0_of m (datsV m 0 c) rfl (fun _ => rfl) t _)
  have e2 : rd (st0_1 t) (heap5 t h f0 f1 f2 f3 f4) = iblk m c 1 t := by
    unfold rd heap5
    rw [Function.update_of_ne (stage_ne (w := 1) (w' := 0) (by decide) _ _), Function.update_self]
    exact q1.trans (before0_1_of m (datsV m 0 c) rfl (fun _ => rfl) t _)
  iapply (wp_of_runs (defs := defs₀ (F := Ideal)) Variants.none c none Set.univ (bodyAt0 t) _ _ (runs_at m c t
    (heap5 t h f0 f1 f2 f3 f4) e1 e2) _)
  rw [pts_bufs_mk]
  isplitl [Hp H0 H1 H2 H3 H4]
  · isplitl [H0]; · iexact H0
    isplitl [H1]; · iexact H1
    isplitl [H2]; · iexact H2
    isplitl [H3]; · iexact H3
    isplitl [H4]; · iexact H4
    iexact Hp
  iintro %a %h' %d Hp
  ihave Hp := (pts_bufs c t h') $$ Hp
  icases Hp with ⟨H0, H1, H2, H3, H4, Hp⟩
  isplitl [Hp Hg]
  · isplitl [Hp]
    · iapply (show (pts c scr h' : sProp 𝕄) ⊢ Pipeline.scopedRest spec0 c from pts_held c scr h') $$ Hp
    iexact Hg
  isplitl [HW]; · iexact HW
  isplitl [H0]
  · iapply (owns_give c (st0_0 t) (w0 t) _ ((datsV m 0 c).after 0 t) d.i1) $$ H0
  isplitl [H1]
  · iapply (owns_give c (st0_1 t) (w1 t) _ ((datsV m 0 c).after 1 t) d.i2) $$ H1
  isplitl [H2]
  · iapply (owns_give c (st0_2 t) (w2 t) _ ((datsV m 0 c).after 2 t) (done_boxes d)) $$ H2
  isplitl [H3]
  · iapply (owns_give c (st0_3 t) (w3 t) _ ((datsV m 0 c).after 3 t) (done_scores d)) $$ H3
  iapply (owns_give c (st0_4 t) (w4 t) _ ((datsV m 0 c).after 4 t) (done_labels d)) $$ H4

/-- What the body owes the pipeline. -/
theorem body_obligationV (c : Dev nD) :
    BodyObligationLoose (datsV m 0 c) (defs₀ (F := Ideal)) Variants.none () Set.univ := fun t => by
  rw [bigSep_W0]
  exact triple_restated (bodyPtV m c t) (congrArg (wp Idealize.ShloMosaic.frame (wpE (defs₀ (F := Ideal)) Variants.none c none) Set.univ) (defs₀_row t).symm) .rfl fun _ => by rw [bigSep_W0]; exact .rfl

set_option backward.isDefEq.respectTransparency.types false in
/-- The run, with the arrays it ends with. -/
theorem runV : θ_run defs (onTc (τ := τ) (main (F := Ideal))) ⟨m, fun _ => 0, ρ⟩
    (Pipeline.FramePost cfgs (datsV m) 0 (Pipeline.afterTail₀ cfgs (datsV m) 0 (V0 m) [hostOps1])) :=
  Pipeline.θ_run_frame_around cfgs (datsV m) (0 : Fin 1) launch0 defs₀ Variants.none m ρ main
    (hbody := fun c => body_obligationV m c) (hshare := fun c => (datsV m 0 c).share_full fun _ => rfl)
    (howed := fun _ _ => rfl) (V0 m) [hostOps1] sfx_sub sfx_fresh sfx_keeps (hmain m Variants.none) (fun _ _ => rfl) (fun _ _ => rfl)

end Cert.KernelIdeal.Own

end
-- ==== Proof.KernelResult.lean ====
/-
  The arrays the kernel's run ends with: the blocks of the four points fill each result, and the lines after the call drop an axis.
-/
module

public import proofs.«01_k».proof.Proof.KernelLaunch
public import Idealize.ShloMosaic.Lib.StableHlo.RunRead
public import Idealize.ShloMosaic.Lib.Pointwise

@[expose] public section

set_option maxRecDepth 16384

noncomputable section

namespace Cert.KernelIdeal.Own

open Cert.KernelIdeal Cert.KernelIdeal.Gen Nms
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem emb2 (t : Fin cfg0.N) (r : Fin 300) (j : Fin 4) :
    (((cfg0.win 2).blk t).view.emb (ix3 0 r j : S1x300x4.Idx) : S4x300x4.Idx) = ix3 (row t) r j := by
  show ((win0_2.rect t).emb (ix3 0 r j : S1x300x4.Idx)) = _
  refine funext fun a => Fin.ext ?_
  rw [Pipeline.Window.rect_emb_val win0_2 t]
  have e : win0_2.index t 0 * win0_2.size 0 = t.val ∧ win0_2.index t 1 * win0_2.size 1 = 0 ∧ win0_2.index t 2 * win0_2.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem cover2 (i : S4x300x4.Idx) : ∃ t : Fin cfg0.N, (cfg0.win 2).flush t = true ∧ i ∈ ((cfg0.win 2).blk t).view.set := by
  refine ⟨⟨(i 0).val, lt_of_lt_of_eq (i 0).isLt N_0.symm⟩, flush0_2 _, ?_⟩
  have e := emb2 ⟨(i 0).val, lt_of_lt_of_eq (i 0).isLt N_0.symm⟩ (i 1) (i 2)
  have e' : i = ((cfg0.win 2).blk ⟨(i 0).val, lt_of_lt_of_eq (i 0).isLt N_0.symm⟩).view.emb (ix3 0 (i 1) (i 2) : S1x300x4.Idx) :=
    (eq_ix3 i).trans e.symm
  have := ((cfg0.win 2).blk ⟨(i 0).val, lt_of_lt_of_eq (i 0).isLt N_0.symm⟩).view.emb_mem_set (ix3 0 (i 1) (i 2) : S1x300x4.Idx)
  exact (congrArg (fun z => z ∈ ((cfg0.win 2).blk ⟨(i 0).val, lt_of_lt_of_eq (i 0).isLt N_0.symm⟩).view.set) e').mpr this

theorem arr2 (c : Dev nD) : (datsV m 0 c).arrAt 2 cfg0.N = boxesG m c :=
  (datsV m 0 c).arrAt_eq_of_cover 2 (boxesG m c) (fun t _ => rfl) cover2

theorem emb3 (t : Fin cfg0.N) (r : Fin 1) (j : Fin 300) :
    (((cfg0.win 3).blk t).view.emb (ix3 0 r j : S1x1x300.Idx) : S4x1x300.Idx) = ix3 (row t) r j := by
  show ((win0_3.rect t).emb (ix3 0 r j : S1x1x300.Idx)) = _
  refine funext fun a => Fin.ext ?_
  rw [Pipeline.Window.rect_emb_val win0_3 t]
  have e : win0_3.index t 0 * win0_3.size 0 = t.val ∧ win0_3.index t 1 * win0_3.size 1 = 0 ∧ win0_3.index t 2 * win0_3.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem cover3 (i : S4x1x300.Idx) : ∃ t : Fin cfg0.N, (cfg0.win 3).flush t = true ∧ i ∈ ((cfg0.win 3).blk t).view.set := by
  refine ⟨⟨(i 0).val, lt_of_lt_of_eq (i 0).isLt N_0.symm⟩, flush0_3 _, ?_⟩
  have e := emb3 ⟨(i 0).val, lt_of_lt_of_eq (i 0).isLt N_0.symm⟩ (i 1) (i 2)
  have e' : i = ((cfg0.win 3).blk ⟨(i 0).val, lt_of_lt_of_eq (i 0).isLt N_0.symm⟩).view.emb (ix3 0 (i 1) (i 2) : S1x1x300.Idx) :=
    (eq_ix3 i).trans e.symm
  have := ((cfg0.win 3).blk ⟨(i 0).val, lt_of_lt_of_eq (i 0).isLt N_0.symm⟩).view.emb_mem_set (ix3 0 (i 1) (i 2) : S1x1x300.Idx)
  exact (congrArg (fun z => z ∈ ((cfg0.win 3).blk ⟨(i 0).val, lt_of_lt_of_eq (i 0).isLt N_0.symm⟩).view.set) e').mpr this

theorem arr3 (c : Dev nD) : (datsV m 0 c).arrAt 3 cfg0.N = scoresG m c :=
  (datsV m 0 c).arrAt_eq_of_cover 3 (scoresG m c) (fun t _ => rfl) cover3

theorem emb4 (t : Fin cfg0.N) (r : Fin 1) (j : Fin 300) :
    (((cfg0.win 4).blk t).view.emb (ix3 0 r j : S1x1x300.Idx) : S4x1x300.Idx) = ix3 (row t) r j := by
  show ((win0_4.rect t).emb (ix3 0 r j : S1x1x300.Idx)) = _
  refine funext fun a => Fin.ext ?_
  rw [Pipeline.Window.rect_emb_val win0_4 t]
  have e : win0_4.index t 0 * win0_4.size 0 = t.val ∧ win0_4.index t 1 * win0_4.size 1 = 0 ∧ win0_4.index t 2 * win0_4.size 2 = 0 := by
    rcases fin_N0 t with rfl | rfl | rfl | rfl <;> decide +kernel
  match a with
  | ⟨0, _⟩ => exact (congrArg (· + 0) e.1)
  | ⟨1, _⟩ => exact (congrArg (· + r.val) e.2.1).trans (Nat.zero_add _)
  | ⟨2, _⟩ => exact (congrArg (· + j.val) e.2.2).trans (Nat.zero_add _)

theorem cover4 (i : S4x1x300.Idx) : ∃ t : Fin cfg0.N, (cfg0.win 4).flush t = true ∧ i ∈ ((cfg0.win 4).blk t).view.set := by
  refine ⟨⟨(i 0).val, lt_of_lt_of_eq (i 0).isLt N_0.symm⟩, flush0_4 _, ?_⟩
  have e := emb4 ⟨(i 0).val, lt_of_lt_of_eq (i 0).isLt N_0.symm⟩ (i 1) (i 2)
  have e' : i = ((cfg0.win 4).blk ⟨(i 0).val, lt_of_lt_of_eq (i 0).isLt N_0.symm⟩).view.emb (ix3 0 (i 1) (i 2) : S1x1x300.Idx) :=
    (eq_ix3 i).trans e.symm
  have := ((cfg0.win 4).blk ⟨(i 0).val, lt_of_lt_of_eq (i 0).isLt N_0.symm⟩).view.emb_mem_set (ix3 0 (i 1) (i 2) : S1x1x300.Idx)
  exact (congrArg (fun z => z ∈ ((cfg0.win 4).blk ⟨(i 0).val, lt_of_lt_of_eq (i 0).isLt N_0.symm⟩).view.set) e').mpr this

theorem arr4 (c : Dev nD) : (datsV m 0 c).arrAt 4 cfg0.N = labelsG m c :=
  (datsV m 0 c).arrAt_eq_of_cover 4 (labelsG m c) (fun t _ => rfl) cover4

theorem tail_main_v5 (c : Dev nD) (b : Fin 4) (t : Fin 300) :
    (Pipeline.afterTail₀ cfgs (datsV m) 0 (V0 m) [hostOps1] c main_v5 : S4x300.Idx → EReal) (ix2 b t) = scoresG m c (ix3 b 0 t) := by
  unfold Pipeline.afterTail₀
  simp only [List.flatten_cons, List.flatten_nil, List.append_nil, hostOps1]
  after_reads_simp
  have e : Pipeline.withArrays (cfgs 0).spec c (V0 m c) (fun w => (datsV m 0 c).arrAt w (cfgs 0).N) (Proc.devRef .tc main_v4_1) = scoresG m c :=
    (Pipeline.withArrays_arr (cfgs 0).spec winFacts0.arr_inj c (V0 m c) (fun w => (datsV m 0 c).arrAt w (cfgs 0).N) 3).trans (arr3 m c)
  rw [e]
  pointwise

theorem tail_main_v6 (c : Dev nD) (b : Fin 4) (t : Fin 300) :
    (Pipeline.afterTail₀ cfgs (datsV m) 0 (V0 m) [hostOps1] c main_v6 : S4x300.Idx → BitVec 32) (ix2 b t) = labelsG m c (ix3 b 0 t) := by
  unfold Pipeline.afterTail₀
  simp only [List.flatten_cons, List.flatten_nil, List.append_nil, hostOps1]
  after_reads_simp
  have e : Pipeline.withArrays (cfgs 0).spec c (V0 m c) (fun w => (datsV m 0 c).arrAt w (cfgs 0).N) (Proc.devRef .tc main_v4_2) = labelsG m c :=
    (Pipeline.withArrays_arr (cfgs 0).spec winFacts0.arr_inj c (V0 m c) (fun w => (datsV m 0 c).arrAt w (cfgs 0).N) 4).trans (arr4 m c)
  rw [e]
  pointwise

/-- The run: the three results and the arguments. -/
theorem run_results : θ_run defs (onTc (τ := τ) (main (F := Ideal))) ⟨m, fun _ => 0, ρ⟩ (fun r => ∀ c : Dev nD,
      (∀ y : S4x300x4.Idx, (r.2.mem ((c.tc : Thread nD τ).loc main_v4_0) : S4x300x4.Idx → EReal) y = outB (inA m c) (inC m c) (y 0) (y 1).val (y 2))
      ∧ (∀ y : S4x300.Idx, (r.2.mem ((c.tc : Thread nD τ).loc main_v5) : S4x300.Idx → EReal) y = outS (inA m c) (inC m c) (y 0) (y 1).val)
      ∧ (∀ y : S4x300.Idx, (r.2.mem ((c.tc : Thread nD τ).loc main_v6) : S4x300.Idx → BitVec 32) y = outL (inA m c) (inC m c) (y 0) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨fun y => ?_, fun y => ?_, fun y => ?_, ?_, ?_⟩) (runV m ρ)
  · exact congrFun (((h c).1 2).trans (arr2 m c)) y
  · have e := (h c).2 main_v5 (Pipeline.mem_restRefs_of main_v5 (by decide) (by decide))
    refine (congrFun e y).trans ?_
    rw [eq_ix2 y]
    exact tail_main_v5 m c _ _
  · have e := (h c).2 main_v6 (Pipeline.mem_restRefs_of main_v6 (by decide) (by decide))
    refine (congrFun e y).trans ?_
    rw [eq_ix2 y]
    exact tail_main_v6 m c _ _
  · exact ((h c).2 main_arg0 (Pipeline.mem_restRefs_of main_arg0 (by decide) (by decide))).trans (W_main_arg0 m (datsV m) c)
  · exact ((h c).2 main_arg1 (Pipeline.mem_restRefs_of main_arg1 (by decide) (by decide))).trans (W_main_arg1 m (datsV m) c)

end Cert.KernelIdeal.Own

end
-- ==== Proof.ReferenceGather.lean ====
/-
  The reference's gathers along the last axis, each at an index whose printed start is the position read.
-/
module

public import proofs.«01_k».proof.Proof.Gen.ReferenceIdeal.Run
public import Idealize.ShloMosaic.Lib.Pointwise

@[expose] public section

set_option maxRecDepth 20000

noncomputable section

namespace Cert.ReferenceIdeal.Own

open Cert.ReferenceIdeal Cert.ReferenceIdeal.Gen
open Idealize.ShloMosaic

/-- A start below the extent is itself after the clamp. -/
theorem clamp_ofNat {p n : ℕ} (h : p < n) (hn : n < 2 ^ 31) : min (BitVec.ofNat 32 p).toInt.toNat (n - 1) = p := by
  have : (BitVec.ofNat 32 p).toInt = (p : ℤ) := by
    rw [BitVec.toInt_eq_toNat_of_lt (by rw [BitVec.toNat_ofNat]; omega), BitVec.toNat_ofNat]
    rw [Nat.mod_eq_of_lt (by omega)]
  rw [this]; simp only [Int.toNat_natCast]; omega

/-- A position that is not negative stands as it is where a negative one would count from the end. -/
theorem nonneg_keep {p : ℕ} (h : p < 2 ^ 31) (d : BitVec 32) :
    (if IntOp.cmpi .slt (BitVec.ofNat 32 p) 0#32 = 1#1 then d else BitVec.ofNat 32 p) = BitVec.ofNat 32 p := by
  rw [if_neg]
  have : ¬ (BitVec.ofNat 32 p).toInt < (0#32).toInt := by
    rw [BitVec.toInt_eq_toNat_of_lt (by rw [BitVec.toNat_ofNat]; omega)]
    simp only [BitVec.toInt_zero, not_lt]; omega
  simp only [BitVec.toInt_zero] at this
  simp only [IntOp.cmpi, BitVec.slt, BitVec.toInt_zero, this, decide_false]
  decide

theorem gather_one {α : Type} (x : S4x20x5001.Idx → α) (idx : IVec S4x20x1x1 32) (b : Fin 4) (k : Fin 20) (p : Fin 5001)
    (h : idx (ix4 b k 0 0) = BitVec.ofNat 32 p.val) :
    Host.gather gather_S4x20x5001_S4x20x1x1_S4x20x1_n_2_01_01_2_3_111 x idx (ix3 b k 0) = x (ix3 b k p) := by
  unfold Host.gather
  congr 1
  funext a
  match a with
  | 0 => exact Fin.ext (show 0 + b.val + 0 = b.val by omega)
  | 1 => exact Fin.ext (show 0 + k.val + 0 = k.val by omega)
  | 2 =>
    apply Fin.ext
    have e : GatherDims.siIdx gather_S4x20x5001_S4x20x1x1_S4x20x1_n_2_01_01_2_3_111 (ix3 b k 0) ⟨0, by decide⟩ = ix4 b k 0 0 := by
      funext q
      match q with
      | 0 => rfl
      | 1 => rfl
      | 2 => rfl
      | 3 => rfl
    show min (idx (GatherDims.siIdx gather_S4x20x5001_S4x20x1x1_S4x20x1_n_2_01_01_2_3_111 (ix3 b k 0) ⟨0, by decide⟩)).toInt.toNat (5001 - 1) + 0 + 0 = p.val
    rw [e, h]
    exact clamp_ofNat p.isLt (by omega)

theorem gather_many {α : Type} (x : S4x20x5001.Idx → α) (idx : IVec S4x20x300x1 32) (b : Fin 4) (k : Fin 20) (t : Fin 300) (p : Fin 5001)
    (h : idx (ix4 b k t 0) = BitVec.ofNat 32 p.val) :
    Host.gather gather_S4x20x5001_S4x20x300x1_S4x20x300_n_2_01_01_2_3_111 x idx (ix3 b k t) = x (ix3 b k p) := by
  unfold Host.gather
  congr 1
  funext a
  match a with
  | 0 => exact Fin.ext (show 0 + b.val + 0 = b.val by omega)
  | 1 => exact Fin.ext (show 0 + k.val + 0 = k.val by omega)
  | 2 =>
    apply Fin.ext
    have e : GatherDims.siIdx gather_S4x20x5001_S4x20x300x1_S4x20x300_n_2_01_01_2_3_111 (ix3 b k t) ⟨0, by decide⟩ = ix4 b k t 0 := by
      funext q
      match q with
      | 0 => rfl
      | 1 => rfl
      | 2 => rfl
      | 3 => rfl
    show min (idx (GatherDims.siIdx gather_S4x20x5001_S4x20x300x1_S4x20x300_n_2_01_01_2_3_111 (ix3 b k t) ⟨0, by decide⟩)).toInt.toNat (5001 - 1) + 0 + 0 = p.val
    rw [e, h]
    exact clamp_ofNat p.isLt (by omega)

theorem gather_flat {α : Type} (x : S4x6000.Idx → α) (idx : IVec S4x300x1 32) (b : Fin 4) (t : Fin 300) (p : Fin 6000)
    (h : idx (ix3 b t 0) = BitVec.ofNat 32 p.val) :
    Host.gather gather_S4x6000_S4x300x1_S4x300_n_1_0_0_1_2_11 x idx (ix2 b t) = x (ix2 b p) := by
  unfold Host.gather
  congr 1
  funext a
  match a with
  | 0 => exact Fin.ext (show 0 + b.val + 0 = b.val by omega)
  | 1 =>
    apply Fin.ext
    have e : GatherDims.siIdx gather_S4x6000_S4x300x1_S4x300_n_1_0_0_1_2_11 (ix2 b t) ⟨0, by decide⟩ = ix3 b t 0 := by
      funext q
      match q with
      | 0 => rfl
      | 1 => rfl
      | 2 => rfl
    show min (idx (GatherDims.siIdx gather_S4x6000_S4x300x1_S4x300_n_1_0_0_1_2_11 (ix2 b t) ⟨0, by decide⟩)).toInt.toNat (6000 - 1) + 0 + 0 = p.val
    rw [e, h]
    exact clamp_ofNat p.isLt (by omega)

end Cert.ReferenceIdeal.Own
-- ==== Proof.ReferenceValue.lean ====
/-
  What the reference computes: its loop's carried arrays round by round, as the rounds of `Proof/Answer.lean`.
-/
module

public import proofs.«01_k».proof.Proof.ReferenceRun
public import proofs.«01_k».proof.Proof.ReferenceGather
public import proofs.«01_k».proof.Proof.TopK
public import proofs.«01_k».proof.Proof.Answer

@[expose] public section

set_option maxRecDepth 20000

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI Idealize.SL.Sem
open Nms

theorem ninf : Ideal.ofBits FTy.f32 4286578688#32 = ⊥ := by simp [Ideal.ofBits, Ideal.ieee]

theorem slt_small {a b : ℕ} (ha : a < 2 ^ 31) (hb : b < 2 ^ 31) :
    IntOp.cmpi .slt (BitVec.ofNat 32 a) (BitVec.ofNat 32 b) = if a < b then 1#1 else 0#1 := by
  have e : ∀ {x : ℕ}, x < 2 ^ 31 → (BitVec.ofNat 32 x).toInt = (x : ℤ) := by
    intro x hx
    rw [BitVec.toInt_eq_toNat_of_lt (by rw [BitVec.toNat_ofNat]; omega), BitVec.toNat_ofNat, Nat.mod_eq_of_lt (by omega)]
  simp only [IntOp.cmpi, BitVec.slt, e ha, e hb, Int.ofNat_lt]
  by_cases h : a < b <;> simp [h]

section entry
variable (m : (ℓ : Loc nD τ sig) → Buf (Elt Ideal) ℓ) (c : Dev nD)

/-- The boxes and the classification as given. -/
def inA (b : Fin 4) (j : Fin 5000) (k : Fin 4) : EReal :=
  (launchContents m c (Proc.devRef .tc main_arg0) : S4x5000x4.Idx → EReal) (ix3 b j k)
def inC (b : Fin 4) (j : Fin 5000) (k : Fin 20) : EReal :=
  (launchContents m c (Proc.devRef .tc main_arg1) : S4x5000x20.Idx → EReal) (ix3 b j k)

theorem entry_v4 (b : Fin 4) (k : Fin 20) (j : Fin 5001) :
    (entryContents preI m c (Proc.devRef .tc main_v4) : S4x20x5001.Idx → EReal) (ix3 b k j)
      = if h : j.val < 5000 then inC m c b ⟨j.val, h⟩ k else ⊥ := by
  simp only [entryContents, afterL_cons, afterL_nil]
  after_reads_simp
  pointwise
  after_reads_simp
  exact dite_congr rfl (fun _ => rfl) (fun _ => ninf)

theorem entry_c0 (b : Fin 4) (k : Fin 20) (j : Fin 5001) :
    (entryContents preI m c (Proc.devRef .tc main_v8) : S4x20x5001.Idx → EReal) (ix3 b k j) = coord (inA m c) b 0 j.val := by
  simp only [entryContents, afterL_cons, afterL_nil]
  after_reads_simp
  pointwise
  after_reads_simp
  exact dite_congr rfl (fun _ => rfl) (fun _ => Ideal.ofBits_zero_f32)
theorem entry_c1 (b : Fin 4) (k : Fin 20) (j : Fin 5001) :
    (entryContents preI m c (Proc.devRef .tc main_v12) : S4x20x5001.Idx → EReal) (ix3 b k j) = coord (inA m c) b 1 j.val := by
  simp only [entryContents, afterL_cons, afterL_nil]
  after_reads_simp
  pointwise
  after_reads_simp
  exact dite_congr rfl (fun _ => rfl) (fun _ => Ideal.ofBits_zero_f32)
theorem entry_c2 (b : Fin 4) (k : Fin 20) (j : Fin 5001) :
    (entryContents preI m c (Proc.devRef .tc main_v16) : S4x20x5001.Idx → EReal) (ix3 b k j) = coord (inA m c) b 2 j.val := by
  simp only [entryContents, afterL_cons, afterL_nil]
  after_reads_simp
  pointwise
  after_reads_simp
  exact dite_congr rfl (fun _ => rfl) (fun _ => Ideal.ofBits_zero_f32)
theorem entry_c3 (b : Fin 4) (k : Fin 20) (j : Fin 5001) :
    (entryContents preI m c (Proc.devRef .tc main_v20) : S4x20x5001.Idx → EReal) (ix3 b k j) = coord (inA m c) b 3 j.val := by
  simp only [entryContents, afterL_cons, afterL_nil]
  after_reads_simp
  pointwise
  after_reads_simp
  exact dite_congr rfl (fun _ => rfl) (fun _ => Ideal.ofBits_zero_f32)

theorem entry_j0 : entryContents preI m c (Proc.devRef .tc main_v38_0) = entryContents preI m c (Proc.devRef .tc main_v8) := by
  simp only [entryContents, afterL_cons, afterL_nil]; after_reads_simp; rfl
theorem entry_j1 : entryContents preI m c (Proc.devRef .tc main_v38_1) = entryContents preI m c (Proc.devRef .tc main_v12) := by
  simp only [entryContents, afterL_cons, afterL_nil]; after_reads_simp; rfl
theorem entry_j2 : entryContents preI m c (Proc.devRef .tc main_v38_2) = entryContents preI m c (Proc.devRef .tc main_v16) := by
  simp only [entryContents, afterL_cons, afterL_nil]; after_reads_simp; rfl
theorem entry_j3 : entryContents preI m c (Proc.devRef .tc main_v38_3) = entryContents preI m c (Proc.devRef .tc main_v20) := by
  simp only [entryContents, afterL_cons, afterL_nil]; after_reads_simp; rfl

theorem entry_lab (b : Fin 4) (k : Fin 20) (j : Fin 5001) :
    (entryContents preI m c (Proc.devRef .tc main_v29) : S4x20x5001.Idx → BitVec 32) (ix3 b k j)
      = if j.val < 5000 then BitVec.ofNat 32 k.val else (-1#32) := by
  simp only [entryContents, afterL_cons, afterL_nil]
  after_reads_simp
  simp only [TRef.toBuf, TRef.ofBuf, id, cast_eq, eq_mpr_eq_cast]
  pointwise
  by_cases h : j.val < 5000
  · rw [if_pos h, slt_small (by omega) (by omega), if_pos h]; rfl
  · rw [if_neg h, slt_small (by omega) (by omega), if_neg h]; rfl

theorem entry_s (b : Fin 4) (k : Fin 20) (j : Fin 5001) :
    (entryContents preI m c (Proc.devRef .tc main_v38_8) : S4x20x5001.Idx → EReal) (ix3 b k j) = first (inC m c) b k.val j.val := by
  simp only [entryContents, afterL_cons, afterL_nil]
  after_reads_simp
  simp only [TRef.toBuf, TRef.ofBuf, id, cast_eq, eq_mpr_eq_cast]
  pointwise
  after_reads_simp
  unfold first
  by_cases h : j.val < 5000
  · simp only [dif_pos h]; rw [ninf, dif_pos ⟨h, k.isLt⟩]; rfl
  · simp only [dif_neg h]
    rw [dif_neg (fun h' => h h'.1), ninf]
    refine (ite_congr rfl (fun _ => ninf) fun _ => rfl).trans ?_
    simp
theorem entry_p (j : Fin 5001) :
    (entryContents preI m c (Proc.devRef .tc main_v38_4) : S1x1x5001.Idx → BitVec 32) (ix3 0 0 j) = BitVec.ofNat 32 j.val := by
  simp only [entryContents, afterL_cons, afterL_nil]
  after_reads_simp
  simp only [id]
  pointwise
theorem entry_q (j : Fin 300) :
    (entryContents preI m c (Proc.devRef .tc main_v38_5) : S1x1x300.Idx → BitVec 32) (ix3 0 0 j) = BitVec.ofNat 32 j.val := by
  simp only [entryContents, afterL_cons, afterL_nil]
  after_reads_simp
  simp only [id]
  pointwise
theorem entry_t : (entryContents preI m c (Proc.devRef .tc main_v38_7) : S_.Idx → BitVec 32) = fun _ => 0#32 := by
  simp only [entryContents, afterL_cons, afterL_nil]
  after_reads_simp
  rfl
theorem entry_i (b : Fin 4) (k : Fin 20) (j : Fin 300) :
    (entryContents preI m c (Proc.devRef .tc main_v38_9) : S4x20x300.Idx → BitVec 32) (ix3 b k j) = 5000#32 := by
  simp only [entryContents, afterL_cons, afterL_nil]
  after_reads_simp
  rfl

end entry

end Cert.ReferenceIdeal.Own
-- ==== Proof.ReferenceStep.lean ====
/-
  The reference's rounds: one trip of its loop from the state before a round to the state after it.
-/
module

public import proofs.«01_k».proof.Proof.ReferenceValue
public import Idealize.ShloMosaic.Lib.WordCmp

@[expose] public section

set_option maxRecDepth 20000

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI Idealize.SL.Sem
open Nms

/-- The carried arrays before round `t`. -/
structure At (A : Fin 4 → Fin 5000 → Fin 4 → EReal) (C : Fin 4 → Fin 5000 → Fin 20 → EReal) (V : Valuation τ sig (Elt Ideal)) (t : ℕ) : Prop where
  c0 : ∀ (b : Fin 4) (k : Fin 20) (j : Fin 5001), (V (Proc.devRef .tc main_v38_0) : S4x20x5001.Idx → EReal) (ix3 b k j) = coord A b 0 j.val
  c1 : ∀ (b : Fin 4) (k : Fin 20) (j : Fin 5001), (V (Proc.devRef .tc main_v38_1) : S4x20x5001.Idx → EReal) (ix3 b k j) = coord A b 1 j.val
  c2 : ∀ (b : Fin 4) (k : Fin 20) (j : Fin 5001), (V (Proc.devRef .tc main_v38_2) : S4x20x5001.Idx → EReal) (ix3 b k j) = coord A b 2 j.val
  c3 : ∀ (b : Fin 4) (k : Fin 20) (j : Fin 5001), (V (Proc.devRef .tc main_v38_3) : S4x20x5001.Idx → EReal) (ix3 b k j) = coord A b 3 j.val
  p : ∀ j : Fin 5001, (V (Proc.devRef .tc main_v38_4) : S1x1x5001.Idx → BitVec 32) (ix3 0 0 j) = BitVec.ofNat 32 j.val
  q : ∀ j : Fin 300, (V (Proc.devRef .tc main_v38_5) : S1x1x300.Idx → BitVec 32) (ix3 0 0 j) = BitVec.ofNat 32 j.val
  r : (V (Proc.devRef .tc main_v38_7) : S_.Idx → BitVec 32) = fun _ => BitVec.ofNat 32 t
  s : ∀ (b : Fin 4) (k : Fin 20) (j : Fin 5001), (V (Proc.devRef .tc main_v38_8) : S4x20x5001.Idx → EReal) (ix3 b k j)
    = nms (coord A b) (first C b k.val) t j.val
  i : ∀ (b : Fin 4) (k : Fin 20) (j : Fin 300), (V (Proc.devRef .tc main_v38_9) : S4x20x300.Idx → BitVec 32) (ix3 b k j)
    = BitVec.ofNat 32 (if j.val < t ∧ sco A C b k.val j.val ≠ ⊥ then plc A C b k.val j.val else 5000)

theorem sel_if (p : Prop) [Decidable p] {α : Type} (x y : α) : Scalar.select (BitVec.ofBool (decide p)) x y = if p then x else y := by
  by_cases hp : p
  · rw [if_pos hp, decide_eq_true hp]; rfl
  · rw [if_neg hp, decide_eq_false hp]; rfl

theorem or_if (p q : Prop) [Decidable p] [Decidable q] :
    IntOp.ori (BitVec.ofBool (decide p)) (BitVec.ofBool (decide q)) = BitVec.ofBool (decide (p ∨ q)) := by
  by_cases hp : p <;> by_cases hq : q <;> simp only [hp, hq, decide_true, decide_false, or_true, true_or, or_false, or_self] <;> rfl

section step
variable {A : Fin 4 → Fin 5000 → Fin 4 → EReal} {C : Fin 4 → Fin 5000 → Fin 20 → EReal} {V : Valuation τ sig (Elt Ideal)} {t : ℕ}

theorem ext_s (h : At A C V t) (b : Fin 4) (k : Fin 20) :
    (ext fun q : Fin 5001 => ((V (Proc.devRef .tc main_v38_8) : S4x20x5001.Idx → EReal) (ix3 b k q) : EReal))
      = nms (coord A b) (first C b k.val) t := by
  funext q
  unfold ext
  by_cases hq : q < 5001
  · rw [dif_pos hq]; exact h.s b k ⟨q, hq⟩
  · rw [dif_neg hq, nms_bot _ _ (first_bot (by omega))]

theorem plc_lt' (A : Fin 4 → Fin 5000 → Fin 4 → EReal) (C : Fin 4 → Fin 5000 → Fin 20 → EReal) (b : Fin 4) (k t : ℕ) :
    plc A C b k t < 5001 := by
  have h1 := isTop_pick (s := nms (coord A b) (first C b k) t) (n := 5001) (by omega)
    (fun q hq => nms_bot _ _ (first_bot (by omega)))
  have h2 := (isPick_pick (nms (coord A b) (first C b k) t) (n := 5001) (t := 0) (by omega)).1
  unfold plc place
  rw [h1.top_eq]; exact h2

theorem step_idx (h : At A C V t) (b : Fin 4) (k : Fin 20) :
    (res_main_while0b_indices_18 V : S4x20x1.Idx → BitVec 32) (ix3 b k 0) = BitVec.ofNat 32 (plc A C b k.val t) := by
  unfold res_main_while0b_indices_18
  refine (topK_one _ _ b k).1.trans ?_
  rw [ext_s h]; rfl

theorem step_best (h : At A C V t) (b : Fin 4) (k : Fin 20) :
    ((Host.topK S4x20x1 2 (FloatOps.cmpfTotal (F := Ideal) .gt) (V (Proc.devRef .tc main_v38_8)) sliceFits_S4x20x5001_S4x20x1).1 (ix3 b k 0) : Ideal .f32)
      = (sco A C b k.val t : EReal) := by
  refine (topK_one _ _ b k).2.trans ?_
  rw [ext_s h]; rfl

/-- The start a gather is given for the box taken. -/
theorem step_start (h : At A C V t) (b : Fin 4) (k : Fin 20) :
    (shapeCast S4x20x1x1 (select (cmpi .slt (res_main_while0b_indices_18 V) (broadcastInDim S4x20x1 ![] bcast_S_S4x20x1 (constantI S_ 32 0#32))) (addi (res_main_while0b_indices_18 V) (broadcastInDim S4x20x1 ![] bcast_S_S4x20x1 (constantI S_ 32 5001#32))) (res_main_while0b_indices_18 V)) shapeCasts_S4x20x1_S4x20x1x1 : S4x20x1x1.Idx → BitVec 32) (ix4 b k 0 0)
      = BitVec.ofNat 32 (plc A C b k.val t) := by
  pointwise
  rw [step_idx h]
  exact nonneg_keep (by have := plc_lt' A C b k.val t; omega) _

theorem step_b0 (h : At A C V t) (b : Fin 4) (k : Fin 20) :
    (res_main_while0b_v62 V : S4x20x1.Idx → EReal) (ix3 b k 0) = coord A b 0 (plc A C b k.val t) := by
  unfold res_main_while0b_v62
  refine (gather_one _ _ b k ⟨_, plc_lt' A C b k.val t⟩ (step_start h b k)).trans ?_
  exact h.c0 _ _ _
theorem step_b1 (h : At A C V t) (b : Fin 4) (k : Fin 20) :
    (res_main_while0b_v63 V : S4x20x1.Idx → EReal) (ix3 b k 0) = coord A b 1 (plc A C b k.val t) := by
  unfold res_main_while0b_v63
  refine (gather_one _ _ b k ⟨_, plc_lt' A C b k.val t⟩ (step_start h b k)).trans ?_
  exact h.c1 _ _ _
theorem step_b2 (h : At A C V t) (b : Fin 4) (k : Fin 20) :
    (res_main_while0b_v64 V : S4x20x1.Idx → EReal) (ix3 b k 0) = coord A b 2 (plc A C b k.val t) := by
  unfold res_main_while0b_v64
  refine (gather_one _ _ b k ⟨_, plc_lt' A C b k.val t⟩ (step_start h b k)).trans ?_
  exact h.c2 _ _ _
theorem step_b3 (h : At A C V t) (b : Fin 4) (k : Fin 20) :
    (res_main_while0b_v65 V : S4x20x1.Idx → EReal) (ix3 b k 0) = coord A b 3 (plc A C b k.val t) := by
  unfold res_main_while0b_v65
  refine (gather_one _ _ b k ⟨_, plc_lt' A C b k.val t⟩ (step_start h b k)).trans ?_
  exact h.c3 _ _ _

theorem step_inter (h : At A C V t) (b : Fin 4) (k : Fin 20) (j : Fin 5001) :
    (res_main_while0b_v80 V : S4x20x5001.Idx → EReal) (ix3 b k j) = inter (coord A b) (plc A C b k.val t) j.val := by
  unfold res_main_while0b_v80
  pointwise
  rw [step_b0 h, step_b1 h, step_b2 h, step_b3 h, h.c0, h.c1, h.c2, h.c3]
  rfl

theorem step_union (h : At A C V t) (b : Fin 4) (k : Fin 20) (j : Fin 5001) :
    (res_main_while0b_v97 V : S4x20x5001.Idx → EReal) (ix3 b k j)
      = area (coord A b) (plc A C b k.val t) + area (coord A b) j.val - inter (coord A b) (plc A C b k.val t) j.val := by
  unfold res_main_while0b_v97
  pointwise
  rw [step_inter h, step_b0 h, step_b1 h, step_b2 h, step_b3 h, h.c0, h.c1, h.c2, h.c3]
  rfl

theorem step_s (h : At A C V t) (b : Fin 4) (k : Fin 20) (j : Fin 5001) :
    (step_main_v38_8 V : S4x20x5001.Idx → EReal) (ix3 b k j) = nms (coord A b) (first C b k.val) (t + 1) j.val := by
  unfold step_main_v38_8
  simp only [id]
  pointwise
  rw [step_inter h, step_union h, step_idx h, h.p, h.s]
  have hp := plc_lt' A C b k.val t
  have hj := j.isLt
  rw [WordCmp.cmpi_eq_ofNat (by omega) (by omega), or_if, sel_if, ninf]
  rfl

theorem step_i (ht : t < 300) (h : At A C V t) (b : Fin 4) (k : Fin 20) (j : Fin 300) :
    (step_main_v38_9 V : S4x20x300.Idx → BitVec 32) (ix3 b k j)
      = BitVec.ofNat 32 (if j.val < t + 1 ∧ sco A C b k.val j.val ≠ ⊥ then plc A C b k.val j.val else 5000) := by
  unfold step_main_v38_9
  simp only [id]
  pointwise
  rw [step_best h, step_idx h, h.q, h.i, h.r]
  have hj := j.isLt
  rw [WordCmp.cmpi_eq_ofNat (by omega) (by omega), sel_if, ninf]
  by_cases e : j.val = t
  · subst e
    rw [if_pos rfl]
    by_cases hs : sco A C b k.val j.val = ⊥
    · rw [hs, if_neg (lt_irrefl _), if_neg (fun h' => h'.2 rfl)]
    · rw [if_pos (bot_lt_iff_ne_bot.mpr hs), if_pos ⟨by omega, hs⟩]
  · rw [if_neg e]
    congr 1
    exact if_congr (and_congr_left fun _ => by omega) rfl rfl

theorem step_at (ht : t < 300) (h : At A C V t) : At A C (STEP V) (t + 1) where
  c0 b k j := by rw [STEP_main_v38_0]; exact h.c0 b k j
  c1 b k j := by rw [STEP_main_v38_1]; exact h.c1 b k j
  c2 b k j := by rw [STEP_main_v38_2]; exact h.c2 b k j
  c3 b k j := by rw [STEP_main_v38_3]; exact h.c3 b k j
  p j := by rw [STEP_main_v38_4]; exact h.p j
  q j := by rw [STEP_main_v38_5]; exact h.q j
  r := by
    rw [STEP_main_v38_7]
    unfold step_main_v38_7
    funext i
    show IntOp.addi ((V (Proc.devRef .tc main_v38_7) : S_.Idx → BitVec 32) i) 1#32 = BitVec.ofNat 32 (t + 1)
    rw [h.r]
    show BitVec.ofNat 32 t + BitVec.ofNat 32 1 = _
    rw [← BitVec.ofNat_add]
  s b k j := by rw [STEP_main_v38_8]; exact step_s h b k j
  i b k j := by rw [STEP_main_v38_9]; exact step_i ht h b k j

end step

/-- The carried arrays before round `t`, from the program's launch. -/
theorem at_loop (m : (ℓ : Loc nD τ sig) → Buf (Elt Ideal) ℓ) (c : Dev nD) :
    ∀ t, t ≤ 300 → At (inA m c) (inC m c) (STEP^[t] (entryContents preI m c)) t
  | 0, _ => {
    c0 := fun b k j => by rw [Function.iterate_zero, id, entry_j0]; exact entry_c0 m c b k j
    c1 := fun b k j => by rw [Function.iterate_zero, id, entry_j1]; exact entry_c1 m c b k j
    c2 := fun b k j => by rw [Function.iterate_zero, id, entry_j2]; exact entry_c2 m c b k j
    c3 := fun b k j => by rw [Function.iterate_zero, id, entry_j3]; exact entry_c3 m c b k j
    p := fun j => by rw [Function.iterate_zero, id]; exact entry_p m c j
    q := fun j => by rw [Function.iterate_zero, id]; exact entry_q m c j
    r := by rw [Function.iterate_zero, id]; exact entry_t m c
    s := fun b k j => by rw [Function.iterate_zero, id]; exact entry_s m c b k j
    i := fun b k j => by
      rw [Function.iterate_zero, id, if_neg (fun h => absurd h.1 (Nat.not_lt_zero _))]; exact entry_i m c b k j }
  | t + 1, h => by
    rw [Function.iterate_succ_apply']
    exact step_at (by omega) (at_loop m c t (by omega))

/-- The positions the loop leaves. -/
theorem exit_i (m : (ℓ : Loc nD τ sig) → Buf (Elt Ideal) ℓ) (c : Dev nD) (b : Fin 4) (k : Fin 20) (j : Fin 300) :
    (exitV m c (Proc.devRef .tc main_v38_9) : S4x20x300.Idx → BitVec 32) (ix3 b k j)
      = BitVec.ofNat 32 (if sco (inA m c) (inC m c) b k.val j.val ≠ ⊥ then plc (inA m c) (inC m c) b k.val j.val else 5000) := by
  unfold exitV
  rw [cond_keeps (atK m 300 c) main_v38_9 (by decide), atK_agree m c 300 main_v38_9 (by decide)]
  refine ((at_loop m c 300 (le_refl _)).i b k j).trans ?_
  congr 1
  exact if_congr (and_iff_right j.isLt) rfl rfl

end Cert.ReferenceIdeal.Own
-- ==== Proof.ReferenceOut.lean ====
/-
  The reference's results: the lines after its loop read the three hundred best rounds of an image, as `Proof/Answer.lean` says them.
-/
module

public import proofs.«01_k».proof.Proof.ReferenceStep

@[expose] public section

set_option maxRecDepth 20000

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI Idealize.SL.Sem
open Nms

/-- An array read at the positions the rounds left, the classes' rounds in one list. -/
def flatOf {α : Type} (x : S4x20x5001.Idx → α) (I : S4x20x300.Idx → BitVec 32) : S4x6000.Idx → α :=
  shapeCast S4x6000
    (Host.gather gather_S4x20x5001_S4x20x300x1_S4x20x300_n_2_01_01_2_3_111 x
      (shapeCast S4x20x300x1
        (select (cmpi CmpIPredicate.slt I (broadcastInDim S4x20x300 ![] bcast_S_S4x20x300 (constantI S_ 32 0#32)))
          (addi I (broadcastInDim S4x20x300 ![] bcast_S_S4x20x300 (constantI S_ 32 5001#32))) I) shapeCasts_S4x20x300_S4x20x300x1))
    shapeCasts_S4x20x300_S4x6000

def best (x : S4x20x5001.Idx → Ideal .f32) (I : S4x20x300.Idx → BitVec 32) : S4x300.Idx → Ideal .f32 :=
  (Host.topK S4x300 1 (FloatOps.cmpfTotal CmpDirection.gt) (flatOf x I) sliceFits_S4x6000_S4x300).1

def bestAt (x : S4x20x5001.Idx → Ideal .f32) (I : S4x20x300.Idx → BitVec 32) : S4x300.Idx → BitVec 32 :=
  (Host.topK S4x300 1 (FloatOps.cmpfTotal CmpDirection.gt) (flatOf x I) sliceFits_S4x6000_S4x300).2

def atBest {α : Type} (y : S4x20x5001.Idx → α) (x : S4x20x5001.Idx → Ideal .f32) (I : S4x20x300.Idx → BitVec 32) : S4x300.Idx → α :=
  Host.gather gather_S4x6000_S4x300x1_S4x300_n_1_0_0_1_2_11 (flatOf y I)
    (shapeCast S4x300x1
      (select (cmpi CmpIPredicate.slt (bestAt x I) (broadcastInDim S4x300 ![] bcast_S_S4x300 (constantI S_ 32 0#32)))
        (addi (bestAt x I) (broadcastInDim S4x300 ![] bcast_S_S4x300 (constantI S_ 32 6000#32))) (bestAt x I)) shapeCasts_S4x300_S4x300x1)

theorem post_values (V : Valuation τ sig (Elt Ideal)) : afterL postI V (Proc.devRef .tc main_values)
    = best (V (Proc.devRef .tc main_v4)) (V (Proc.devRef .tc main_v38_9)) := by
  simp only [afterL_cons, afterL_nil]
  after_reads_simp
  simp only [TRef.toBuf, TRef.ofBuf, id, cast_eq, eq_mpr_eq_cast]
  rfl
theorem post_60 (V : Valuation τ sig (Elt Ideal)) : afterL postI V (Proc.devRef .tc main_v60)
    = atBest (V (Proc.devRef .tc main_v29) : S4x20x5001.Idx → BitVec 32) (V (Proc.devRef .tc main_v4)) (V (Proc.devRef .tc main_v38_9)) := by
  simp only [afterL_cons, afterL_nil]
  after_reads_simp
  simp only [TRef.toBuf, TRef.ofBuf, id, cast_eq, eq_mpr_eq_cast]
  rfl
theorem col_at {α : Type} (x : S4x300.Idx → α) (b : Fin 4) (t : Fin 300) :
    broadcastInDim S4x300x1 ![0, 1] bcast_S4x300_S4x300x1_0_1 x (ix3 b t 0) = x (ix2 b t) := by
  pointwise

theorem post_57 (V : Valuation τ sig (Elt Ideal)) (b : Fin 4) (t : Fin 300) (k : Fin 4) :
    (afterL postI V (Proc.devRef .tc main_v57) : S4x300x4.Idx → EReal) (ix3 b t k)
    = atBest ((match k with
        | 0 => (V (Proc.devRef .tc main_v8) : S4x20x5001.Idx → EReal) | 1 => (V (Proc.devRef .tc main_v12) : S4x20x5001.Idx → EReal)
        | 2 => (V (Proc.devRef .tc main_v16) : S4x20x5001.Idx → EReal) | 3 => (V (Proc.devRef .tc main_v20) : S4x20x5001.Idx → EReal)))
       (V (Proc.devRef .tc main_v4)) (V (Proc.devRef .tc main_v38_9)) (ix2 b t) := by
  simp only [afterL_cons, afterL_nil]
  match k with
  | 0 =>
    after_reads_simp
    pointwise
    after_reads_simp
    simp only [TRef.toBuf, TRef.ofBuf, id, cast_eq, eq_mpr_eq_cast]
    refine (col_at _ b t).trans ?_
    rfl
  | 1 =>
    after_reads_simp
    pointwise
    after_reads_simp
    simp only [TRef.toBuf, TRef.ofBuf, id, cast_eq, eq_mpr_eq_cast]
    refine (col_at _ b t).trans ?_
    rfl
  | 2 =>
    after_reads_simp
    pointwise
    after_reads_simp
    simp only [TRef.toBuf, TRef.ofBuf, id, cast_eq, eq_mpr_eq_cast]
    refine (col_at _ b t).trans ?_
    rfl
  | 3 =>
    after_reads_simp
    pointwise
    after_reads_simp
    simp only [TRef.toBuf, TRef.ofBuf, id, cast_eq, eq_mpr_eq_cast]
    refine (col_at _ b t).trans ?_
    rfl

variable (m : (ℓ : Loc nD τ sig) → Buf (Elt Ideal) ℓ) (c : Dev nD)

/-- The position round `q % 300` of class `q / 300` leaves: the box taken, or the row past the boxes. -/
def posOf (b : Fin 4) (q : Fin 6000) : Fin 5001 :=
  ⟨if flat (inA m c) (inC m c) b q.val ≠ ⊥ then plc (inA m c) (inC m c) b (q.val / 300) (q.val % 300) else 5000, by
    have := plc_lt' (inA m c) (inC m c) b (q.val / 300) (q.val % 300)
    split <;> omega⟩

theorem flatOf_at {α : Type} (x : S4x20x5001.Idx → α) (b : Fin 4) (q : Fin 6000) :
    flatOf x (exitV m c (Proc.devRef .tc main_v38_9)) (ix2 b q) = x (ix3 b ⟨q.val / 300, by omega⟩ (posOf m c b q)) := by
  unfold flatOf
  pointwise
  refine gather_many _ _ _ _ _ _ ?_
  pointwise
  rw [exit_i]
  exact nonneg_keep (lt_of_lt_of_le (posOf m c b q).isLt (by omega)) _

theorem ext_flat (b : Fin 4) :
    (ext fun q : Fin 6000 => (flatOf (exitV m c (Proc.devRef .tc main_v4) : S4x20x5001.Idx → Ideal .f32)
      (exitV m c (Proc.devRef .tc main_v38_9)) (ix2 b q) : EReal)) = flat (inA m c) (inC m c) b := by
  funext q
  unfold ext
  by_cases hq : q < 6000
  · rw [dif_pos hq]
    refine (flatOf_at m c _ b ⟨q, hq⟩).trans ?_
    rw [loop_keep m c main_v4 (by decide +kernel)]
    refine (entry_v4 m c _ _ _).trans ?_
    unfold posOf
    by_cases hs : flat (inA m c) (inC m c) b q = ⊥
    · simp only [hs, ne_eq, not_true_eq_false, if_false]
      rw [dif_neg (by omega)]
    · have hl := plc_lt (inA m c) (inC m c) b hs
      simp only [ne_eq, hs, not_false_eq_true, if_true]
      rw [dif_pos hl.1]
      have h1 := nms_or (coord (inA m c) b) (first (inC m c) b (q / 300)) (q % 300) (plc (inA m c) (inC m c) b (q / 300) (q % 300))
      have h2 : flat (inA m c) (inC m c) b q = first (inC m c) b (q / 300) (plc (inA m c) (inC m c) b (q / 300) (q % 300)) := by
        rcases h1 with h1 | h1
        · exact absurd h1 hs
        · exact h1
      obtain ⟨h3, h4⟩ := first_eq (h2 ▸ hs)
      exact (h2.trans h4).symm
  · rw [dif_neg hq, flat_bot _ _ _ (by omega)]

theorem pick_lt (v : ℕ → EReal) (t : Fin 300) : pick v 6000 t.val < 6000 := (isPick_pick v (by omega)).1

theorem bestAt_at (b : Fin 4) (t : Fin 300) :
    bestAt (exitV m c (Proc.devRef .tc main_v4)) (exitV m c (Proc.devRef .tc main_v38_9)) (ix2 b t)
      = BitVec.ofNat 32 (pick (flat (inA m c) (inC m c) b) 6000 t.val) := by
  unfold bestAt
  refine (topK_row _ _ b t).1.trans ?_
  rw [ext_flat]

theorem final_scores (b : Fin 4) (t : Fin 300) :
    (finalContents condOps preI bodyI postI 300 m c (Proc.devRef .tc main_values) : S4x300.Idx → EReal) (ix2 b t)
      = outS (inA m c) (inC m c) b t.val := by
  rw [finalContents_eq, post_values]
  unfold best
  refine (topK_row _ _ b t).2.trans ?_
  rw [ext_flat]
  rfl

theorem atBest_at {α : Type} (y : S4x20x5001.Idx → α) (b : Fin 4) (t : Fin 300) :
    atBest y (exitV m c (Proc.devRef .tc main_v4)) (exitV m c (Proc.devRef .tc main_v38_9)) (ix2 b t)
      = y (ix3 b ⟨pick (flat (inA m c) (inC m c) b) 6000 t.val / 300, by have := pick_lt (flat (inA m c) (inC m c) b) t; omega⟩
          (posOf m c b ⟨_, pick_lt (flat (inA m c) (inC m c) b) t⟩)) := by
  unfold atBest
  refine (gather_flat _ _ b t ⟨_, pick_lt (flat (inA m c) (inC m c) b) t⟩ ?_).trans (flatOf_at m c y b _)
  pointwise
  rw [bestAt_at]
  exact nonneg_keep (by have := pick_lt (flat (inA m c) (inC m c) b) t; omega) _

theorem final_labels (b : Fin 4) (t : Fin 300) :
    (finalContents condOps preI bodyI postI 300 m c (Proc.devRef .tc main_v60) : S4x300.Idx → BitVec 32) (ix2 b t)
      = outL (inA m c) (inC m c) b t.val := by
  rw [finalContents_eq, post_60, atBest_at, loop_keep m c main_v29 (by decide +kernel)]
  refine (entry_lab m c _ _ _).trans ?_
  unfold posOf outL outS
  by_cases hs : flat (inA m c) (inC m c) b (pick (flat (inA m c) (inC m c) b) 6000 t.val) = ⊥
  · simp only [hs, ne_eq, not_true_eq_false, if_false, if_true]
    rw [if_neg (by omega)]
  · have hl := plc_lt (inA m c) (inC m c) b hs
    simp only [ne_eq, hs, not_false_eq_true, if_true, if_false]
    rw [if_pos hl.1]

theorem coord_pos (b : Fin 4) (k : Fin 4) (t : Fin 300) :
    coord (inA m c) b k (posOf m c b ⟨_, pick_lt (flat (inA m c) (inC m c) b) t⟩).val = outB (inA m c) (inC m c) b t.val k := by
  unfold posOf outB outS
  by_cases hs : flat (inA m c) (inC m c) b (pick (flat (inA m c) (inC m c) b) 6000 t.val) = ⊥
  · simp only [hs, ne_eq, not_true_eq_false, if_false, if_true]
    unfold coord
    rw [dif_neg (by omega)]
  · simp only [ne_eq, hs, not_false_eq_true, if_true, if_false]

theorem final_boxes (b : Fin 4) (t : Fin 300) (k : Fin 4) :
    (finalContents condOps preI bodyI postI 300 m c (Proc.devRef .tc main_v57) : S4x300x4.Idx → EReal) (ix3 b t k)
      = outB (inA m c) (inC m c) b t.val k := by
  rw [finalContents_eq, post_57, atBest_at]
  match k with
  | 0 =>
    simp only [loop_keep m c main_v8 (by decide +kernel)]
    exact (entry_c0 m c _ _ _).trans (coord_pos m c b 0 t)
  | 1 =>
    simp only [loop_keep m c main_v12 (by decide +kernel)]
    exact (entry_c1 m c _ _ _).trans (coord_pos m c b 1 t)
  | 2 =>
    simp only [loop_keep m c main_v16 (by decide +kernel)]
    exact (entry_c2 m c _ _ _).trans (coord_pos m c b 2 t)
  | 3 =>
    simp only [loop_keep m c main_v20 (by decide +kernel)]
    exact (entry_c3 m c _ _ _).trans (coord_pos m c b 3 t)

end Cert.ReferenceIdeal.Own
-- ==== Proof.Algebraic.lean ====
/-
  The kernel and the reference end with equal results: both with the results `Proof/Answer.lean` says of their arguments.
-/
module

public import proofs.«01_k».proof.Defs
public import proofs.«01_k».proof.Proof.KernelResult
public import proofs.«01_k».proof.Proof.ReferenceOut

@[expose] public section

noncomputable section

namespace Cert.Proof

open Idealize.ShloMosaic Idealize.ShloMosaic.TcCoe
open Idealize.SL.Sem Nms

theorem algebraic : Cert.algebraic_KernelIdeal_ReferenceIdeal := by
  intro m g m' g' _ hagree
  have hA : ∀ c, Cert.ReferenceIdeal.Own.inA m' c = Cert.KernelIdeal.Own.inA m c := fun c =>
    funext fun b => funext fun j => funext fun k => congrFun (hagree c).1 (ix3 b j k)
  have hC : ∀ c, Cert.ReferenceIdeal.Own.inC m' c = Cert.KernelIdeal.Own.inC m c := fun c =>
    funext fun b => funext fun j => funext fun k => congrFun (hagree c).2 (ix3 b j k)
  refine ⟨fun c => (fun y => outB (Cert.KernelIdeal.Own.inA m c) (Cert.KernelIdeal.Own.inC m c) (y 0) (y 1).val (y 2) : Cert.KernelIdeal.S4x300x4.Idx → EReal),
    fun c => (fun y => outS (Cert.KernelIdeal.Own.inA m c) (Cert.KernelIdeal.Own.inC m c) (y 0) (y 1).val : Cert.KernelIdeal.S4x300.Idx → EReal),
    fun c => (fun y => outL (Cert.KernelIdeal.Own.inA m c) (Cert.KernelIdeal.Own.inC m c) (y 0) (y 1).val : Cert.KernelIdeal.S4x300.Idx → BitVec 32), ?_, ?_⟩
  · exact (θ_run _ _ _).mono (fun r h c => ⟨funext (h c).1, funext (h c).2.1, funext (h c).2.2.1, (h c).2.2.2.1, (h c).2.2.2.2⟩)
      (Cert.KernelIdeal.Own.run_results m g)
  · refine (θ_run _ _ _).mono (fun r h c => ⟨?_, ?_, ?_, ?_, ?_⟩) (Cert.ReferenceIdeal.Value.run_fold (F := Ideal) m' g')
    · refine (h c Cert.ReferenceIdeal.main_v57 (by decide)).trans (funext fun (y : Cert.KernelIdeal.S4x300x4.Idx) => ?_)
      refine (congrArg _ (eq_ix3 y)).trans ((Cert.ReferenceIdeal.Own.final_boxes m' c (y 0) (y 1) (y 2)).trans ?_)
      rw [hA c, hC c]
    · refine (h c Cert.ReferenceIdeal.main_values (by decide)).trans (funext fun (y : Cert.KernelIdeal.S4x300.Idx) => ?_)
      refine (congrArg _ (eq_ix2 y)).trans ((Cert.ReferenceIdeal.Own.final_scores m' c (y 0) (y 1)).trans ?_)
      rw [hA c, hC c]
    · refine (h c Cert.ReferenceIdeal.main_v60 (by decide)).trans (funext fun (y : Cert.KernelIdeal.S4x300.Idx) => ?_)
      refine (congrArg _ (eq_ix2 y)).trans ((Cert.ReferenceIdeal.Own.final_labels m' c (y 0) (y 1)).trans ?_)
      rw [hA c, hC c]
    · exact (h c Cert.ReferenceIdeal.main_arg0 (by decide)).trans (Cert.ReferenceIdeal.Own.final_arg0 m' c)
    · exact (h c Cert.ReferenceIdeal.main_arg1 (by decide)).trans (Cert.ReferenceIdeal.Own.final_arg1 m' c)

end Cert.Proof

end
-- ==== Proof.lean ====
/- The certificate: the runs of the kernel, of its idealization and of the reference from any launch memory; the idealized kernel is the kernel's own
   text; and the kernel and the reference end with equal results over the extended reals. -/
module

public import proofs.«01_k».proof.Defs
public import proofs.«01_k».proof.Proof.KernelFrame
public import proofs.«01_k».proof.Proof.KernelIdealFrame
public import proofs.«01_k».proof.Proof.ReferenceRun
public import proofs.«01_k».proof.Proof.Algebraic

@[expose] public section

noncomputable section

namespace Cert.Proof

open Idealize.ShloMosaic

/-- Every claim. -/
theorem claim : Cert.Claim := ⟨Cert.Kernel.Gen.facts, Cert.KernelIdeal.Gen.facts, Cert.ReferenceIdeal.Gen.facts,
  fun m ρ _ => Cert.Kernel.Own.frame m ρ,
  fun m ρ _ => Cert.KernelIdeal.Own.frame m ρ,
  fun m ρ _ => Cert.ReferenceIdeal.Own.frame m ρ,
  trivial,
  algebraic⟩

end Cert.Proof

end
